-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "sqrt_half" .f32 0x3F3504F3#32 (((Real.sqrt 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v443) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x16x768 : Shape := ⟨3, ![32, 16, 768]⟩
abbrev S8x768 : Shape := ⟨2, ![8, 768]⟩
abbrev S8 : Shape := ⟨1, ![8]⟩
abbrev S8x768x3072 : Shape := ⟨3, ![8, 768, 3072]⟩
abbrev S8x3072x768 : Shape := ⟨3, ![8, 3072, 768]⟩
abbrev S512x768 : Shape := ⟨2, ![512, 768]⟩
abbrev S1x8 : Shape := ⟨2, ![1, 8]⟩
abbrev S1x768x3072 : Shape := ⟨3, ![1, 768, 3072]⟩
abbrev S1x3072x768 : Shape := ⟨3, ![1, 3072, 768]⟩
abbrev S512x8 : Shape := ⟨2, ![512, 8]⟩
abbrev S512 : Shape := ⟨1, ![512]⟩
abbrev S512x1 : Shape := ⟨2, ![512, 1]⟩
abbrev S768x3072 : Shape := ⟨2, ![768, 3072]⟩
abbrev S512x3072 : Shape := ⟨2, ![512, 3072]⟩
abbrev S3072x768 : Shape := ⟨2, ![3072, 768]⟩

abbrev nBuf : Space → Nat
  | .hbm => 8
  | .vmem => 9
  | .smem => 0
  | _ => 0

abbrev bufTy : (tb : Table) → Fin (tcTables nBuf tb) → BufTy
  | .hbm, ⟨0, _⟩ => ⟨S32x16x768, .f32⟩
  | .hbm, ⟨1, _⟩ => ⟨S8x768, .f32⟩
  | .hbm, ⟨2, _⟩ => ⟨S8, .f32⟩
  | .hbm, ⟨3, _⟩ => ⟨S8x768x3072, .f32⟩
  | .hbm, ⟨4, _⟩ => ⟨S8x3072x768, .f32⟩
  | .hbm, ⟨5, _⟩ => ⟨S512x768, .f32⟩
  | .hbm, ⟨6, _⟩ => ⟨S1x8, .f32⟩
  | .hbm, ⟨7, _⟩ => ⟨S512x768, .f32⟩
  | .local _ .vmem, ⟨0, _⟩ => ⟨S512x768, .f32⟩
  | .local _ .vmem, ⟨1, _⟩ => ⟨S8x768, .f32⟩
  | .local _ .vmem, ⟨2, _⟩ => ⟨S1x8, .f32⟩
  | .local _ .vmem, ⟨3, _⟩ => ⟨S1x768x3072, .f32⟩
  | .local _ .vmem, ⟨4, _⟩ => ⟨S1x768x3072, .f32⟩
  | .local _ .vmem, ⟨5, _⟩ => ⟨S1x3072x768, .f32⟩
  | .local _ .vmem, ⟨6, _⟩ => ⟨S1x3072x768, .f32⟩
  | .local _ .vmem, ⟨7, _⟩ => ⟨S512x768, .f32⟩
  | .local _ .vmem, ⟨8, _⟩ => ⟨S512x8, .f32⟩
  | _, _ => ⟨S32x16x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x768x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x3072x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
variable {F : FTy → Type} [FloatOps F] [Named F]
def κ : String → Option EReal := fun
  | "sqrt_half" => some (((Real.sqrt 2)⁻¹ : ℝ) : EReal)
  | _ => none
-- ==== ReferenceIdeal.lean ====
abbrev S32x16x768 : Shape := ⟨3, ![32, 16, 768]⟩
abbrev S8x768 : Shape := ⟨2, ![8, 768]⟩
abbrev S8 : Shape := ⟨1, ![8]⟩
abbrev S8x768x3072 : Shape := ⟨3, ![8, 768, 3072]⟩
abbrev S8x3072x768 : Shape := ⟨3, ![8, 3072, 768]⟩
abbrev S512x768 : Shape := ⟨2, ![512, 768]⟩
abbrev S768x8 : Shape := ⟨2, ![768, 8]⟩
abbrev S512x8 : Shape := ⟨2, ![512, 8]⟩
abbrev S1x8 : Shape := ⟨2, ![1, 8]⟩
abbrev S_ : Shape := ⟨0, ![]⟩
abbrev S512 : Shape := ⟨1, ![512]⟩
abbrev S512x1 : Shape := ⟨2, ![512, 1]⟩
abbrev S512x2 : Shape := ⟨2, ![512, 2]⟩
abbrev S1x768x3072 : Shape := ⟨3, ![1, 768, 3072]⟩
abbrev S768x3072 : Shape := ⟨2, ![768, 3072]⟩
abbrev S512x3072 : Shape := ⟨2, ![512, 3072]⟩
abbrev S1x3072x768 : Shape := ⟨3, ![1, 3072, 768]⟩
abbrev S3072x768 : Shape := ⟨2, ![3072, 768]⟩

abbrev nBuf : Space → Nat
  | .hbm => 498
  | .vmem => 0
  | .smem => 0
  | _ => 0

abbrev hbmTy0_0 (i : Nat) : BufTy := match i % 128 with
  | 0 => ⟨S32x16x768, .f32⟩
  | 1 => ⟨S8x768, .f32⟩
  | 2 => ⟨S8, .f32⟩
  | 3 => ⟨S8x768x3072, .f32⟩
  | 4 => ⟨S8x3072x768, .f32⟩
  | 5 => ⟨S512x768, .f32⟩
  | 6 => ⟨S768x8, .f32⟩
  | 7 => ⟨S512x8, .f32⟩
  | 8 => ⟨S1x8, .f32⟩
  | 9 => ⟨S512x8, .f32⟩
  | 10 => ⟨S512x8, .f32⟩
  | 11 => ⟨S_, .f32⟩
  | 12 => ⟨S512, .f32⟩
  | 13 => ⟨S_, .f32⟩
  | 14 => ⟨S512, .f32⟩
  | 15 => ⟨S512, .f32⟩
  | 16 => ⟨S512x1, .f32⟩
  | 17 => ⟨S512x8, .f32⟩
  | 18 => ⟨S512x8, .f32⟩
  | 19 => ⟨S512x8, .f32⟩
  | 20 => ⟨S_, .f32⟩
  | 21 => ⟨S512, .f32⟩
  | 22 => ⟨S512x1, .f32⟩
  | 23 => ⟨S512x8, .f32⟩
  | 24 => ⟨S512x8, .f32⟩
  | 25 => ⟨S512x2, .f32⟩
  | 26 => ⟨S512x2, .i32⟩
  | 27 => ⟨S_, .f32⟩
  | 28 => ⟨S512, .f32⟩
  | 29 => ⟨S512x1, .f32⟩
  | 30 => ⟨S512x2, .f32⟩
  | 31 => ⟨S512x2, .f32⟩
  | 32 => ⟨S_, .f32⟩
  | 33 => ⟨S512x768, .f32⟩
  | 34 => ⟨S512x1, .i32⟩
  | 35 => ⟨S512, .i32⟩
  | 36 => ⟨S512x1, .i32⟩
  | 37 => ⟨S1x8, .i32⟩
  | 38 => ⟨S512x8, .i32⟩
  | 39 => ⟨S512x8, .i32⟩
  | 40 => ⟨S512x8, .i1⟩
  | 41 => ⟨S512x8, .f32⟩
  | 42 => ⟨S512x1, .f32⟩
  | 43 => ⟨S512, .f32⟩
  | 44 => ⟨S512x1, .f32⟩
  | 45 => ⟨S512x768, .f32⟩
  | 46 => ⟨S512x768, .f32⟩
  | 47 => ⟨S1x768x3072, .f32⟩
  | 48 => ⟨S768x3072, .f32⟩
  | 49 => ⟨S512x3072, .f32⟩
  | 50 => ⟨S_, .f32⟩
  | 51 => ⟨S512x3072, .f32⟩
  | 52 => ⟨S512x3072, .f32⟩
  | 53 => ⟨S512x3072, .f32⟩
  | 54 => ⟨S_, .f32⟩
  | 55 => ⟨S_, .f32⟩
  | 56 => ⟨S512x3072, .f32⟩
  | 57 => ⟨S512x3072, .f32⟩
  | 58 => ⟨S512x3072, .f32⟩
  | 59 => ⟨S512x3072, .f32⟩
  | 60 => ⟨S1x3072x768, .f32⟩
  | 61 => ⟨S3072x768, .f32⟩
  | 62 => ⟨S512x768, .f32⟩
  | 63 => ⟨S512x1, .f32⟩
  | 64 => ⟨S512, .f32⟩
  | 65 => ⟨S512x1, .f32⟩
  | 66 => ⟨S512x1, .f32⟩
  | 67 => ⟨S512x768, .f32⟩
  | 68 => ⟨S512x768, .f32⟩
  | 69 => ⟨S512x768, .f32⟩
  | 70 => ⟨S512x1, .f32⟩
  | 71 => ⟨S512, .f32⟩
  | 72 => ⟨S512x1, .f32⟩
  | 73 => ⟨S512x768, .f32⟩
  | 74 => ⟨S512x768, .f32⟩
  | 75 => ⟨S1x768x3072, .f32⟩
  | 76 => ⟨S768x3072, .f32⟩
  | 77 => ⟨S512x3072, .f32⟩
  | 78 => ⟨S_, .f32⟩
  | 79 => ⟨S512x3072, .f32⟩
  | 80 => ⟨S512x3072, .f32⟩
  | 81 => ⟨S512x3072, .f32⟩
  | 82 => ⟨S_, .f32⟩
  | 83 => ⟨S_, .f32⟩
  | 84 => ⟨S512x3072, .f32⟩
  | 85 => ⟨S512x3072, .f32⟩
  | 86 => ⟨S512x3072, .f32⟩
  | 87 => ⟨S512x3072, .f32⟩
  | 88 => ⟨S1x3072x768, .f32⟩
  | 89 => ⟨S3072x768, .f32⟩
  | 90 => ⟨S512x768, .f32⟩
  | 91 => ⟨S512x1, .f32⟩
  | 92 => ⟨S512, .f32⟩
  | 93 => ⟨S512x1, .f32⟩
  | 94 => ⟨S512x1, .f32⟩
  | 95 => ⟨S512x768, .f32⟩
  | 96 => ⟨S512x768, .f32⟩
  | 97 => ⟨S512x768, .f32⟩
  | 98 => ⟨S512x1, .f32⟩
  | 99 => ⟨S512, .f32⟩
  | 100 => ⟨S512x1, .f32⟩
  | 101 => ⟨S512x768, .f32⟩
  | 102 => ⟨S512x768, .f32⟩
  | 103 => ⟨S1x768x3072, .f32⟩
  | 104 => ⟨S768x3072, .f32⟩
  | 105 => ⟨S512x3072, .f32⟩
  | 106 => ⟨S_, .f32⟩
  | 107 => ⟨S512x3072, .f32⟩
  | 108 => ⟨S512x3072, .f32⟩
  | 109 => ⟨S512x3072, .f32⟩
  | 110 => ⟨S_, .f32⟩
  | 111 => ⟨S_, .f32⟩
  | 112 => ⟨S512x3072, .f32⟩
  | 113 => ⟨S512x3072, .f32⟩
  | 114 => ⟨S512x3072, .f32⟩
  | 115 => ⟨S512x3072, .f32⟩
  | 116 => ⟨S1x3072x768, .f32⟩
  | 117 => ⟨S3072x768, .f32⟩
  | 118 => ⟨S512x768, .f32⟩
  | 119 => ⟨S512x1, .f32⟩
  | 120 => ⟨S512, .f32⟩
  | 121 => ⟨S512x1, .f32⟩
  | 122 => ⟨S512x1, .f32⟩
  | 123 => ⟨S512x768, .f32⟩
  | 124 => ⟨S512x768, .f32⟩
  | 125 => ⟨S512x768, .f32⟩
  | 126 => ⟨S512x1, .f32⟩
  | 127 => ⟨S512, .f32⟩
  | _ => ⟨S32x16x768, .f32⟩

abbrev hbmTy0_1 (i : Nat) : BufTy := match i % 128 with
  | 0 => ⟨S512x1, .f32⟩
  | 1 => ⟨S512x768, .f32⟩
  | 2 => ⟨S512x768, .f32⟩
  | 3 => ⟨S1x768x3072, .f32⟩
  | 4 => ⟨S768x3072, .f32⟩
  | 5 => ⟨S512x3072, .f32⟩
  | 6 => ⟨S_, .f32⟩
  | 7 => ⟨S512x3072, .f32⟩
  | 8 => ⟨S512x3072, .f32⟩
  | 9 => ⟨S512x3072, .f32⟩
  | 10 => ⟨S_, .f32⟩
  | 11 => ⟨S_, .f32⟩
  | 12 => ⟨S512x3072, .f32⟩
  | 13 => ⟨S512x3072, .f32⟩
  | 14 => ⟨S512x3072, .f32⟩
  | 15 => ⟨S512x3072, .f32⟩
  | 16 => ⟨S1x3072x768, .f32⟩
  | 17 => ⟨S3072x768, .f32⟩
  | 18 => ⟨S512x768, .f32⟩
  | 19 => ⟨S512x1, .f32⟩
  | 20 => ⟨S512, .f32⟩
  | 21 => ⟨S512x1, .f32⟩
  | 22 => ⟨S512x1, .f32⟩
  | 23 => ⟨S512x768, .f32⟩
  | 24 => ⟨S512x768, .f32⟩
  | 25 => ⟨S512x768, .f32⟩
  | 26 => ⟨S512x1, .f32⟩
  | 27 => ⟨S512, .f32⟩
  | 28 => ⟨S512x1, .f32⟩
  | 29 => ⟨S512x768, .f32⟩
  | 30 => ⟨S512x768, .f32⟩
  | 31 => ⟨S1x768x3072, .f32⟩
  | 32 => ⟨S768x3072, .f32⟩
  | 33 => ⟨S512x3072, .f32⟩
  | 34 => ⟨S_, .f32⟩
  | 35 => ⟨S512x3072, .f32⟩
  | 36 => ⟨S512x3072, .f32⟩
  | 37 => ⟨S512x3072, .f32⟩
  | 38 => ⟨S_, .f32⟩
  | 39 => ⟨S_, .f32⟩
  | 40 => ⟨S512x3072, .f32⟩
  | 41 => ⟨S512x3072, .f32⟩
  | 42 => ⟨S512x3072, .f32⟩
  | 43 => ⟨S512x3072, .f32⟩
  | 44 => ⟨S1x3072x768, .f32⟩
  | 45 => ⟨S3072x768, .f32⟩
  | 46 => ⟨S512x768, .f32⟩
  | 47 => ⟨S512x1, .f32⟩
  | 48 => ⟨S512, .f32⟩
  | 49 => ⟨S512x1, .f32⟩
  | 50 => ⟨S512x1, .f32⟩
  | 51 => ⟨S512x768, .f32⟩
  | 52 => ⟨S512x768, .f32⟩
  | 53 => ⟨S512x768, .f32⟩
  | 54 => ⟨S512x1, .f32⟩
  | 55 => ⟨S512, .f32⟩
  | 56 => ⟨S512x1, .f32⟩
  | 57 => ⟨S512x768, .f32⟩
  | 58 => ⟨S512x768, .f32⟩
  | 59 => ⟨S1x768x3072, .f32⟩
  | 60 => ⟨S768x3072, .f32⟩
  | 61 => ⟨S512x3072, .f32⟩
  | 62 => ⟨S_, .f32⟩
  | 63 => ⟨S512x3072, .f32⟩
  | 64 => ⟨S512x3072, .f32⟩
  | 65 => ⟨S512x3072, .f32⟩
  | 66 => ⟨S_, .f32⟩
  | 67 => ⟨S_, .f32⟩
  | 68 => ⟨S512x3072, .f32⟩
  | 69 => ⟨S512x3072, .f32⟩
  | 70 => ⟨S512x3072, .f32⟩
  | 71 => ⟨S512x3072, .f32⟩
  | 72 => ⟨S1x3072x768, .f32⟩
  | 73 => ⟨S3072x768, .f32⟩
  | 74 => ⟨S512x768, .f32⟩
  | 75 => ⟨S512x1, .f32⟩
  | 76 => ⟨S512, .f32⟩
  | 77 => ⟨S512x1, .f32⟩
  | 78 => ⟨S512x1, .f32⟩
  | 79 => ⟨S512x768, .f32⟩
  | 80 => ⟨S512x768, .f32⟩
  | 81 => ⟨S512x768, .f32⟩
  | 82 => ⟨S512x1, .f32⟩
  | 83 => ⟨S512, .f32⟩
  | 84 => ⟨S512x1, .f32⟩
  | 85 => ⟨S512x768, .f32⟩
  | 86 => ⟨S512x768, .f32⟩
  | 87 => ⟨S1x768x3072, .f32⟩
  | 88 => ⟨S768x3072, .f32⟩
  | 89 => ⟨S512x3072, .f32⟩
  | 90 => ⟨S_, .f32⟩
  | 91 => ⟨S512x3072, .f32⟩
  | 92 => ⟨S512x3072, .f32⟩
  | 93 => ⟨S512x3072, .f32⟩
  | 94 => ⟨S_, .f32⟩
  | 95 => ⟨S_, .f32⟩
  | 96 => ⟨S512x3072, .f32⟩
  | 97 => ⟨S512x3072, .f32⟩
  | 98 => ⟨S512x3072, .f32⟩
  | 99 => ⟨S512x3072, .f32⟩
  | 100 => ⟨S1x3072x768, .f32⟩
  | 101 => ⟨S3072x768, .f32⟩
  | 102 => ⟨S512x768, .f32⟩
  | 103 => ⟨S512x1, .f32⟩
  | 104 => ⟨S512, .f32⟩
  | 105 => ⟨S512x1, .f32⟩
  | 106 => ⟨S512x1, .f32⟩
  | 107 => ⟨S512x768, .f32⟩
  | 108 => ⟨S512x768, .f32⟩
  | 109 => ⟨S512x768, .f32⟩
  | 110 => ⟨S512x1, .f32⟩
  | 111 => ⟨S512, .f32⟩
  | 112 => ⟨S512x1, .f32⟩
  | 113 => ⟨S512x768, .f32⟩
  | 114 => ⟨S512x768, .f32⟩
  | 115 => ⟨S1x768x3072, .f32⟩
  | 116 => ⟨S768x3072, .f32⟩
  | 117 => ⟨S512x3072, .f32⟩
  | 118 => ⟨S_, .f32⟩
  | 119 => ⟨S512x3072, .f32⟩
  | 120 => ⟨S512x3072, .f32⟩
  | 121 => ⟨S512x3072, .f32⟩
  | 122 => ⟨S_, .f32⟩
  | 123 => ⟨S_, .f32⟩
  | 124 => ⟨S512x3072, .f32⟩
  | 125 => ⟨S512x3072, .f32⟩
  | 126 => ⟨S512x3072, .f32⟩
  | 127 => ⟨S512x3072, .f32⟩
  | _ => ⟨S32x16x768, .f32⟩

abbrev hbmTy0_2 (i : Nat) : BufTy := match i % 128 with
  | 0 => ⟨S1x3072x768, .f32⟩
  | 1 => ⟨S3072x768, .f32⟩
  | 2 => ⟨S512x768, .f32⟩
  | 3 => ⟨S512x1, .f32⟩
  | 4 => ⟨S512, .f32⟩
  | 5 => ⟨S512x1, .f32⟩
  | 6 => ⟨S512x1, .f32⟩
  | 7 => ⟨S512x768, .f32⟩
  | 8 => ⟨S512x768, .f32⟩
  | 9 => ⟨S512x768, .f32⟩
  | 10 => ⟨S512x1, .i32⟩
  | 11 => ⟨S512, .i32⟩
  | 12 => ⟨S512x1, .i32⟩
  | 13 => ⟨S1x8, .i32⟩
  | 14 => ⟨S512x8, .i32⟩
  | 15 => ⟨S512x8, .i32⟩
  | 16 => ⟨S512x8, .i1⟩
  | 17 => ⟨S512x8, .f32⟩
  | 18 => ⟨S512x1, .f32⟩
  | 19 => ⟨S512, .f32⟩
  | 20 => ⟨S512x1, .f32⟩
  | 21 => ⟨S512x768, .f32⟩
  | 22 => ⟨S512x768, .f32⟩
  | 23 => ⟨S1x768x3072, .f32⟩
  | 24 => ⟨S768x3072, .f32⟩
  | 25 => ⟨S512x3072, .f32⟩
  | 26 => ⟨S_, .f32⟩
  | 27 => ⟨S512x3072, .f32⟩
  | 28 => ⟨S512x3072, .f32⟩
  | 29 => ⟨S512x3072, .f32⟩
  | 30 => ⟨S_, .f32⟩
  | 31 => ⟨S_, .f32⟩
  | 32 => ⟨S512x3072, .f32⟩
  | 33 => ⟨S512x3072, .f32⟩
  | 34 => ⟨S512x3072, .f32⟩
  | 35 => ⟨S512x3072, .f32⟩
  | 36 => ⟨S1x3072x768, .f32⟩
  | 37 => ⟨S3072x768, .f32⟩
  | 38 => ⟨S512x768, .f32⟩
  | 39 => ⟨S512x1, .f32⟩
  | 40 => ⟨S512, .f32⟩
  | 41 => ⟨S512x1, .f32⟩
  | 42 => ⟨S512x1, .f32⟩
  | 43 => ⟨S512x768, .f32⟩
  | 44 => ⟨S512x768, .f32⟩
  | 45 => ⟨S512x768, .f32⟩
  | 46 => ⟨S512x1, .f32⟩
  | 47 => ⟨S512, .f32⟩
  | 48 => ⟨S512x1, .f32⟩
  | 49 => ⟨S512x768, .f32⟩
  | 50 => ⟨S512x768, .f32⟩
  | 51 => ⟨S1x768x3072, .f32⟩
  | 52 => ⟨S768x3072, .f32⟩
  | 53 => ⟨S512x3072, .f32⟩
  | 54 => ⟨S_, .f32⟩
  | 55 => ⟨S512x3072, .f32⟩
  | 56 => ⟨S512x3072, .f32⟩
  | 57 => ⟨S512x3072, .f32⟩
  | 58 => ⟨S_, .f32⟩
  | 59 => ⟨S_, .f32⟩
  | 60 => ⟨S512x3072, .f32⟩
  | 61 => ⟨S512x3072, .f32⟩
  | 62 => ⟨S512x3072, .f32⟩
  | 63 => ⟨S512x3072, .f32⟩
  | 64 => ⟨S1x3072x768, .f32⟩
  | 65 => ⟨S3072x768, .f32⟩
  | 66 => ⟨S512x768, .f32⟩
  | 67 => ⟨S512x1, .f32⟩
  | 68 => ⟨S512, .f32⟩
  | 69 => ⟨S512x1, .f32⟩
  | 70 => ⟨S512x1, .f32⟩
  | 71 => ⟨S512x768, .f32⟩
  | 72 => ⟨S512x768, .f32⟩
  | 73 => ⟨S512x768, .f32⟩
  | 74 => ⟨S512x1, .f32⟩
  | 75 => ⟨S512, .f32⟩
  | 76 => ⟨S512x1, .f32⟩
  | 77 => ⟨S512x768, .f32⟩
  | 78 => ⟨S512x768, .f32⟩
  | 79 => ⟨S1x768x3072, .f32⟩
  | 80 => ⟨S768x3072, .f32⟩
  | 81 => ⟨S512x3072, .f32⟩
  | 82 => ⟨S_, .f32⟩
  | 83 => ⟨S512x3072, .f32⟩
  | 84 => ⟨S512x3072, .f32⟩
  | 85 => ⟨S512x3072, .f32⟩
  | 86 => ⟨S_, .f32⟩
  | 87 => ⟨S_, .f32⟩
  | 88 => ⟨S512x3072, .f32⟩
  | 89 => ⟨S512x3072, .f32⟩
  | 90 => ⟨S512x3072, .f32⟩
  | 91 => ⟨S512x3072, .f32⟩
  | 92 => ⟨S1x3072x768, .f32⟩
  | 93 => ⟨S3072x768, .f32⟩
  | 94 => ⟨S512x768, .f32⟩
  | 95 => ⟨S512x1, .f32⟩
  | 96 => ⟨S512, .f32⟩
  | 97 => ⟨S512x1, .f32⟩
  | 98 => ⟨S512x1, .f32⟩
  | 99 => ⟨S512x768, .f32⟩
  | 100 => ⟨S512x768, .f32⟩
  | 101 => ⟨S512x768, .f32⟩
  | 102 => ⟨S512x1, .f32⟩
  | 103 => ⟨S512, .f32⟩
  | 104 => ⟨S512x1, .f32⟩
  | 105 => ⟨S512x768, .f32⟩
  | 106 => ⟨S512x768, .f32⟩
  | 107 => ⟨S1x768x3072, .f32⟩
  | 108 => ⟨S768x3072, .f32⟩
  | 109 => ⟨S512x3072, .f32⟩
  | 110 => ⟨S_, .f32⟩
  | 111 => ⟨S512x3072, .f32⟩
  | 112 => ⟨S512x3072, .f32⟩
  | 113 => ⟨S512x3072, .f32⟩
  | 114 => ⟨S_, .f32⟩
  | 115 => ⟨S_, .f32⟩
  | 116 => ⟨S512x3072, .f32⟩
  | 117 => ⟨S512x3072, .f32⟩
  | 118 => ⟨S512x3072, .f32⟩
  | 119 => ⟨S512x3072, .f32⟩
  | 120 => ⟨S1x3072x768, .f32⟩
  | 121 => ⟨S3072x768, .f32⟩
  | 122 => ⟨S512x768, .f32⟩
  | 123 => ⟨S512x1, .f32⟩
  | 124 => ⟨S512, .f32⟩
  | 125 => ⟨S512x1, .f32⟩
  | 126 => ⟨S512x1, .f32⟩
  | 127 => ⟨S512x768, .f32⟩
  | _ => ⟨S32x16x768, .f32⟩

abbrev hbmTy0_3 (i : Nat) : BufTy := match i % 128 with
  | 0 => ⟨S512x768, .f32⟩
  | 1 => ⟨S512x768, .f32⟩
  | 2 => ⟨S512x1, .f32⟩
  | 3 => ⟨S512, .f32⟩
  | 4 => ⟨S512x1, .f32⟩
  | 5 => ⟨S512x768, .f32⟩
  | 6 => ⟨S512x768, .f32⟩
  | 7 => ⟨S1x768x3072, .f32⟩
  | 8 => ⟨S768x3072, .f32⟩
  | 9 => ⟨S512x3072, .f32⟩
  | 10 => ⟨S_, .f32⟩
  | 11 => ⟨S512x3072, .f32⟩
  | 12 => ⟨S512x3072, .f32⟩
  | 13 => ⟨S512x3072, .f32⟩
  | 14 => ⟨S_, .f32⟩
  | 15 => ⟨S_, .f32⟩
  | 16 => ⟨S512x3072, .f32⟩
  | 17 => ⟨S512x3072, .f32⟩
  | 18 => ⟨S512x3072, .f32⟩
  | 19 => ⟨S512x3072, .f32⟩
  | 20 => ⟨S1x3072x768, .f32⟩
  | 21 => ⟨S3072x768, .f32⟩
  | 22 => ⟨S512x768, .f32⟩
  | 23 => ⟨S512x1, .f32⟩
  | 24 => ⟨S512, .f32⟩
  | 25 => ⟨S512x1, .f32⟩
  | 26 => ⟨S512x1, .f32⟩
  | 27 => ⟨S512x768, .f32⟩
  | 28 => ⟨S512x768, .f32⟩
  | 29 => ⟨S512x768, .f32⟩
  | 30 => ⟨S512x1, .f32⟩
  | 31 => ⟨S512, .f32⟩
  | 32 => ⟨S512x1, .f32⟩
  | 33 => ⟨S512x768, .f32⟩
  | 34 => ⟨S512x768, .f32⟩
  | 35 => ⟨S1x768x3072, .f32⟩
  | 36 => ⟨S768x3072, .f32⟩
  | 37 => ⟨S512x3072, .f32⟩
  | 38 => ⟨S_, .f32⟩
  | 39 => ⟨S512x3072, .f32⟩
  | 40 => ⟨S512x3072, .f32⟩
  | 41 => ⟨S512x3072, .f32⟩
  | 42 => ⟨S_, .f32⟩
  | 43 => ⟨S_, .f32⟩
  | 44 => ⟨S512x3072, .f32⟩
  | 45 => ⟨S512x3072, .f32⟩
  | 46 => ⟨S512x3072, .f32⟩
  | 47 => ⟨S512x3072, .f32⟩
  | 48 => ⟨S1x3072x768, .f32⟩
  | 49 => ⟨S3072x768, .f32⟩
  | 50 => ⟨S512x768, .f32⟩
  | 51 => ⟨S512x1, .f32⟩
  | 52 => ⟨S512, .f32⟩
  | 53 => ⟨S512x1, .f32⟩
  | 54 => ⟨S512x1, .f32⟩
  | 55 => ⟨S512x768, .f32⟩
  | 56 => ⟨S512x768, .f32⟩
  | 57 => ⟨S512x768, .f32⟩
  | 58 => ⟨S512x1, .f32⟩
  | 59 => ⟨S512, .f32⟩
  | 60 => ⟨S512x1, .f32⟩
  | 61 => ⟨S512x768, .f32⟩
  | 62 => ⟨S512x768, .f32⟩
  | 63 => ⟨S1x768x3072, .f32⟩
  | 64 => ⟨S768x3072, .f32⟩
  | 65 => ⟨S512x3072, .f32⟩
  | 66 => ⟨S_, .f32⟩
  | 67 => ⟨S512x3072, .f32⟩
  | 68 => ⟨S512x3072, .f32⟩
  | 69 => ⟨S512x3072, .f32⟩
  | 70 => ⟨S_, .f32⟩
  | 71 => ⟨S_, .f32⟩
  | 72 => ⟨S512x3072, .f32⟩
  | 73 => ⟨S512x3072, .f32⟩
  | 74 => ⟨S512x3072, .f32⟩
  | 75 => ⟨S512x3072, .f32⟩
  | 76 => ⟨S1x3072x768, .f32⟩
  | 77 => ⟨S3072x768, .f32⟩
  | 78 => ⟨S512x768, .f32⟩
  | 79 => ⟨S512x1, .f32⟩
  | 80 => ⟨S512, .f32⟩
  | 81 => ⟨S512x1, .f32⟩
  | 82 => ⟨S512x1, .f32⟩
  | 83 => ⟨S512x768, .f32⟩
  | 84 => ⟨S512x768, .f32⟩
  | 85 => ⟨S512x768, .f32⟩
  | 86 => ⟨S512x1, .f32⟩
  | 87 => ⟨S512, .f32⟩
  | 88 => ⟨S512x1, .f32⟩
  | 89 => ⟨S512x768, .f32⟩
  | 90 => ⟨S512x768, .f32⟩
  | 91 => ⟨S1x768x3072, .f32⟩
  | 92 => ⟨S768x3072, .f32⟩
  | 93 => ⟨S512x3072, .f32⟩
  | 94 => ⟨S_, .f32⟩
  | 95 => ⟨S512x3072, .f32⟩
  | 96 => ⟨S512x3072, .f32⟩
  | 97 => ⟨S512x3072, .f32⟩
  | 98 => ⟨S_, .f32⟩
  | 99 => ⟨S_, .f32⟩
  | 100 => ⟨S512x3072, .f32⟩
  | 101 => ⟨S512x3072, .f32⟩
  | 102 => ⟨S512x3072, .f32⟩
  | 103 => ⟨S512x3072, .f32⟩
  | 104 => ⟨S1x3072x768, .f32⟩
  | 105 => ⟨S3072x768, .f32⟩
  | 106 => ⟨S512x768, .f32⟩
  | 107 => ⟨S512x1, .f32⟩
  | 108 => ⟨S512, .f32⟩
  | 109 => ⟨S512x1, .f32⟩
  | 110 => ⟨S512x1, .f32⟩
  | 111 => ⟨S512x768, .f32⟩
  | 112 => ⟨S512x768, .f32⟩
  | 113 => ⟨S512x768, .f32⟩
  | _ => ⟨S32x16x768, .f32⟩

abbrev hbmTy (i : Nat) : BufTy := match i / 128 with
  | 0 => hbmTy0_0 i
  | 1 => hbmTy0_1 i
  | 2 => hbmTy0_2 i
  | 3 => hbmTy0_3 i
  | _ => ⟨S32x16x768, .f32⟩

abbrev bufTy : (tb : Table) → Fin (tcTables nBuf tb) → BufTy
  | .hbm, ⟨i, _⟩ => hbmTy i
  | _, _ => ⟨S32x16x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_values : Ref sig .tc := ⟨.hbm, 25, rfl⟩
abbrev main_indices : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_6 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_7 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_cst_8 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_cst_9 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_cst_10 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_cst_11 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_cst_12 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_cst_13 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_cst_14 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_cst_15 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_cst_16 : Ref sig .tc := ⟨.hbm, 218, rfl⟩
abbrev main_v189 : Ref sig .tc := ⟨.hbm, 219, rfl⟩
abbrev main_v190 : Ref sig .tc := ⟨.hbm, 220, rfl⟩
abbrev main_v191 : Ref sig .tc := ⟨.hbm, 221, rfl⟩
abbrev main_cst_17 : Ref sig .tc := ⟨.hbm, 222, rfl⟩
abbrev main_v192 : Ref sig .tc := ⟨.hbm, 223, rfl⟩
abbrev main_v193 : Ref sig .tc := ⟨.hbm, 224, rfl⟩
abbrev main_v194 : Ref sig .tc := ⟨.hbm, 225, rfl⟩
abbrev main_v195 : Ref sig .tc := ⟨.hbm, 226, rfl⟩
abbrev main_v196 : Ref sig .tc := ⟨.hbm, 227, rfl⟩
abbrev main_v197 : Ref sig .tc := ⟨.hbm, 228, rfl⟩
abbrev main_v198 : Ref sig .tc := ⟨.hbm, 229, rfl⟩
abbrev main_v199 : Ref sig .tc := ⟨.hbm, 230, rfl⟩
abbrev main_v200 : Ref sig .tc := ⟨.hbm, 231, rfl⟩
abbrev main_v201 : Ref sig .tc := ⟨.hbm, 232, rfl⟩
abbrev main_v202 : Ref sig .tc := ⟨.hbm, 233, rfl⟩
abbrev main_v203 : Ref sig .tc := ⟨.hbm, 234, rfl⟩
abbrev main_v204 : Ref sig .tc := ⟨.hbm, 235, rfl⟩
abbrev main_v205 : Ref sig .tc := ⟨.hbm, 236, rfl⟩
abbrev main_v206 : Ref sig .tc := ⟨.hbm, 237, rfl⟩
abbrev main_v207 : Ref sig .tc := ⟨.hbm, 238, rfl⟩
abbrev main_v208 : Ref sig .tc := ⟨.hbm, 239, rfl⟩
abbrev main_v209 : Ref sig .tc := ⟨.hbm, 240, rfl⟩
abbrev main_v210 : Ref sig .tc := ⟨.hbm, 241, rfl⟩
abbrev main_v211 : Ref sig .tc := ⟨.hbm, 242, rfl⟩
abbrev main_v212 : Ref sig .tc := ⟨.hbm, 243, rfl⟩
abbrev main_v213 : Ref sig .tc := ⟨.hbm, 244, rfl⟩
abbrev main_v214 : Ref sig .tc := ⟨.hbm, 245, rfl⟩
abbrev main_cst_18 : Ref sig .tc := ⟨.hbm, 246, rfl⟩
abbrev main_v215 : Ref sig .tc := ⟨.hbm, 247, rfl⟩
abbrev main_v216 : Ref sig .tc := ⟨.hbm, 248, rfl⟩
abbrev main_v217 : Ref sig .tc := ⟨.hbm, 249, rfl⟩
abbrev main_cst_19 : Ref sig .tc := ⟨.hbm, 250, rfl⟩
abbrev main_v218 : Ref sig .tc := ⟨.hbm, 251, rfl⟩
abbrev main_v219 : Ref sig .tc := ⟨.hbm, 252, rfl⟩
abbrev main_v220 : Ref sig .tc := ⟨.hbm, 253, rfl⟩
abbrev main_v221 : Ref sig .tc := ⟨.hbm, 254, rfl⟩
abbrev main_v222 : Ref sig .tc := ⟨.hbm, 255, rfl⟩
abbrev main_v223 : Ref sig .tc := ⟨.hbm, 256, rfl⟩
abbrev main_v224 : Ref sig .tc := ⟨.hbm, 257, rfl⟩
abbrev main_v225 : Ref sig .tc := ⟨.hbm, 258, rfl⟩
abbrev main_v226 : Ref sig .tc := ⟨.hbm, 259, rfl⟩
abbrev main_v227 : Ref sig .tc := ⟨.hbm, 260, rfl⟩
abbrev main_v228 : Ref sig .tc := ⟨.hbm, 261, rfl⟩
abbrev main_v229 : Ref sig .tc := ⟨.hbm, 262, rfl⟩
abbrev main_v230 : Ref sig .tc := ⟨.hbm, 263, rfl⟩
abbrev main_v231 : Ref sig .tc := ⟨.hbm, 264, rfl⟩
abbrev main_v232 : Ref sig .tc := ⟨.hbm, 265, rfl⟩
abbrev main_v233 : Ref sig .tc := ⟨.hbm, 266, rfl⟩
abbrev main_v234 : Ref sig .tc := ⟨.hbm, 267, rfl⟩
abbrev main_call1_v0 : Ref sig .tc := ⟨.hbm, 268, rfl⟩
abbrev main_call1_v1 : Ref sig .tc := ⟨.hbm, 269, rfl⟩
abbrev main_call1_v2 : Ref sig .tc := ⟨.hbm, 270, rfl⟩
abbrev main_call1_v3 : Ref sig .tc := ⟨.hbm, 271, rfl⟩
abbrev main_call1_v4 : Ref sig .tc := ⟨.hbm, 272, rfl⟩
abbrev main_v235 : Ref sig .tc := ⟨.hbm, 273, rfl⟩
abbrev main_v236 : Ref sig .tc := ⟨.hbm, 274, rfl⟩
abbrev main_v237 : Ref sig .tc := ⟨.hbm, 275, rfl⟩
abbrev main_v238 : Ref sig .tc := ⟨.hbm, 276, rfl⟩
abbrev main_v239 : Ref sig .tc := ⟨.hbm, 277, rfl⟩
abbrev main_v240 : Ref sig .tc := ⟨.hbm, 278, rfl⟩
abbrev main_v241 : Ref sig .tc := ⟨.hbm, 279, rfl⟩
abbrev main_v242 : Ref sig .tc := ⟨.hbm, 280, rfl⟩
abbrev main_v243 : Ref sig .tc := ⟨.hbm, 281, rfl⟩
abbrev main_cst_20 : Ref sig .tc := ⟨.hbm, 282, rfl⟩
abbrev main_v244 : Ref sig .tc := ⟨.hbm, 283, rfl⟩
abbrev main_v245 : Ref sig .tc := ⟨.hbm, 284, rfl⟩
abbrev main_v246 : Ref sig .tc := ⟨.hbm, 285, rfl⟩
abbrev main_cst_21 : Ref sig .tc := ⟨.hbm, 286, rfl⟩
abbrev main_v247 : Ref sig .tc := ⟨.hbm, 287, rfl⟩
abbrev main_v248 : Ref sig .tc := ⟨.hbm, 288, rfl⟩
abbrev main_v249 : Ref sig .tc := ⟨.hbm, 289, rfl⟩
abbrev main_v250 : Ref sig .tc := ⟨.hbm, 290, rfl⟩
abbrev main_v251 : Ref sig .tc := ⟨.hbm, 291, rfl⟩
abbrev main_v252 : Ref sig .tc := ⟨.hbm, 292, rfl⟩
abbrev main_v253 : Ref sig .tc := ⟨.hbm, 293, rfl⟩
abbrev main_v254 : Ref sig .tc := ⟨.hbm, 294, rfl⟩
abbrev main_v255 : Ref sig .tc := ⟨.hbm, 295, rfl⟩
abbrev main_v256 : Ref sig .tc := ⟨.hbm, 296, rfl⟩
abbrev main_v257 : Ref sig .tc := ⟨.hbm, 297, rfl⟩
abbrev main_v258 : Ref sig .tc := ⟨.hbm, 298, rfl⟩
abbrev main_v259 : Ref sig .tc := ⟨.hbm, 299, rfl⟩
abbrev main_v260 : Ref sig .tc := ⟨.hbm, 300, rfl⟩
abbrev main_v261 : Ref sig .tc := ⟨.hbm, 301, rfl⟩
abbrev main_v262 : Ref sig .tc := ⟨.hbm, 302, rfl⟩
abbrev main_v263 : Ref sig .tc := ⟨.hbm, 303, rfl⟩
abbrev main_v264 : Ref sig .tc := ⟨.hbm, 304, rfl⟩
abbrev main_v265 : Ref sig .tc := ⟨.hbm, 305, rfl⟩
abbrev main_v266 : Ref sig .tc := ⟨.hbm, 306, rfl⟩
abbrev main_v267 : Ref sig .tc := ⟨.hbm, 307, rfl⟩
abbrev main_v268 : Ref sig .tc := ⟨.hbm, 308, rfl⟩
abbrev main_v269 : Ref sig .tc := ⟨.hbm, 309, rfl⟩
abbrev main_cst_22 : Ref sig .tc := ⟨.hbm, 310, rfl⟩
abbrev main_v270 : Ref sig .tc := ⟨.hbm, 311, rfl⟩
abbrev main_v271 : Ref sig .tc := ⟨.hbm, 312, rfl⟩
abbrev main_v272 : Ref sig .tc := ⟨.hbm, 313, rfl⟩
abbrev main_cst_23 : Ref sig .tc := ⟨.hbm, 314, rfl⟩
abbrev main_v273 : Ref sig .tc := ⟨.hbm, 315, rfl⟩
abbrev main_v274 : Ref sig .tc := ⟨.hbm, 316, rfl⟩
abbrev main_v275 : Ref sig .tc := ⟨.hbm, 317, rfl⟩
abbrev main_v276 : Ref sig .tc := ⟨.hbm, 318, rfl⟩
abbrev main_v277 : Ref sig .tc := ⟨.hbm, 319, rfl⟩
abbrev main_v278 : Ref sig .tc := ⟨.hbm, 320, rfl⟩
abbrev main_v279 : Ref sig .tc := ⟨.hbm, 321, rfl⟩
abbrev main_v280 : Ref sig .tc := ⟨.hbm, 322, rfl⟩
abbrev main_v281 : Ref sig .tc := ⟨.hbm, 323, rfl⟩
abbrev main_v282 : Ref sig .tc := ⟨.hbm, 324, rfl⟩
abbrev main_v283 : Ref sig .tc := ⟨.hbm, 325, rfl⟩
abbrev main_v284 : Ref sig .tc := ⟨.hbm, 326, rfl⟩
abbrev main_v285 : Ref sig .tc := ⟨.hbm, 327, rfl⟩
abbrev main_v286 : Ref sig .tc := ⟨.hbm, 328, rfl⟩
abbrev main_v287 : Ref sig .tc := ⟨.hbm, 329, rfl⟩
abbrev main_v288 : Ref sig .tc := ⟨.hbm, 330, rfl⟩
abbrev main_v289 : Ref sig .tc := ⟨.hbm, 331, rfl⟩
abbrev main_v290 : Ref sig .tc := ⟨.hbm, 332, rfl⟩
abbrev main_v291 : Ref sig .tc := ⟨.hbm, 333, rfl⟩
abbrev main_v292 : Ref sig .tc := ⟨.hbm, 334, rfl⟩
abbrev main_v293 : Ref sig .tc := ⟨.hbm, 335, rfl⟩
abbrev main_v294 : Ref sig .tc := ⟨.hbm, 336, rfl⟩
abbrev main_v295 : Ref sig .tc := ⟨.hbm, 337, rfl⟩
abbrev main_cst_24 : Ref sig .tc := ⟨.hbm, 338, rfl⟩
abbrev main_v296 : Ref sig .tc := ⟨.hbm, 339, rfl⟩
abbrev main_v297 : Ref sig .tc := ⟨.hbm, 340, rfl⟩
abbrev main_v298 : Ref sig .tc := ⟨.hbm, 341, rfl⟩
abbrev main_cst_25 : Ref sig .tc := ⟨.hbm, 342, rfl⟩
abbrev main_v299 : Ref sig .tc := ⟨.hbm, 343, rfl⟩
abbrev main_v300 : Ref sig .tc := ⟨.hbm, 344, rfl⟩
abbrev main_v301 : Ref sig .tc := ⟨.hbm, 345, rfl⟩
abbrev main_v302 : Ref sig .tc := ⟨.hbm, 346, rfl⟩
abbrev main_v303 : Ref sig .tc := ⟨.hbm, 347, rfl⟩
abbrev main_v304 : Ref sig .tc := ⟨.hbm, 348, rfl⟩
abbrev main_v305 : Ref sig .tc := ⟨.hbm, 349, rfl⟩
abbrev main_v306 : Ref sig .tc := ⟨.hbm, 350, rfl⟩
abbrev main_v307 : Ref sig .tc := ⟨.hbm, 351, rfl⟩
abbrev main_v308 : Ref sig .tc := ⟨.hbm, 352, rfl⟩
abbrev main_v309 : Ref sig .tc := ⟨.hbm, 353, rfl⟩
abbrev main_v310 : Ref sig .tc := ⟨.hbm, 354, rfl⟩
abbrev main_v311 : Ref sig .tc := ⟨.hbm, 355, rfl⟩
abbrev main_v312 : Ref sig .tc := ⟨.hbm, 356, rfl⟩
abbrev main_v313 : Ref sig .tc := ⟨.hbm, 357, rfl⟩
abbrev main_v314 : Ref sig .tc := ⟨.hbm, 358, rfl⟩
abbrev main_v315 : Ref sig .tc := ⟨.hbm, 359, rfl⟩
abbrev main_v316 : Ref sig .tc := ⟨.hbm, 360, rfl⟩
abbrev main_v317 : Ref sig .tc := ⟨.hbm, 361, rfl⟩
abbrev main_v318 : Ref sig .tc := ⟨.hbm, 362, rfl⟩
abbrev main_v319 : Ref sig .tc := ⟨.hbm, 363, rfl⟩
abbrev main_v320 : Ref sig .tc := ⟨.hbm, 364, rfl⟩
abbrev main_v321 : Ref sig .tc := ⟨.hbm, 365, rfl⟩
abbrev main_cst_26 : Ref sig .tc := ⟨.hbm, 366, rfl⟩
abbrev main_v322 : Ref sig .tc := ⟨.hbm, 367, rfl⟩
abbrev main_v323 : Ref sig .tc := ⟨.hbm, 368, rfl⟩
abbrev main_v324 : Ref sig .tc := ⟨.hbm, 369, rfl⟩
abbrev main_cst_27 : Ref sig .tc := ⟨.hbm, 370, rfl⟩
abbrev main_v325 : Ref sig .tc := ⟨.hbm, 371, rfl⟩
abbrev main_v326 : Ref sig .tc := ⟨.hbm, 372, rfl⟩
abbrev main_v327 : Ref sig .tc := ⟨.hbm, 373, rfl⟩
abbrev main_v328 : Ref sig .tc := ⟨.hbm, 374, rfl⟩
abbrev main_v329 : Ref sig .tc := ⟨.hbm, 375, rfl⟩
abbrev main_v330 : Ref sig .tc := ⟨.hbm, 376, rfl⟩
abbrev main_v331 : Ref sig .tc := ⟨.hbm, 377, rfl⟩
abbrev main_v332 : Ref sig .tc := ⟨.hbm, 378, rfl⟩
abbrev main_v333 : Ref sig .tc := ⟨.hbm, 379, rfl⟩
abbrev main_v334 : Ref sig .tc := ⟨.hbm, 380, rfl⟩
abbrev main_v335 : Ref sig .tc := ⟨.hbm, 381, rfl⟩
abbrev main_v336 : Ref sig .tc := ⟨.hbm, 382, rfl⟩
abbrev main_v337 : Ref sig .tc := ⟨.hbm, 383, rfl⟩
abbrev main_v338 : Ref sig .tc := ⟨.hbm, 384, rfl⟩
abbrev main_v339 : Ref sig .tc := ⟨.hbm, 385, rfl⟩
abbrev main_v340 : Ref sig .tc := ⟨.hbm, 386, rfl⟩
abbrev main_v341 : Ref sig .tc := ⟨.hbm, 387, rfl⟩
abbrev main_v342 : Ref sig .tc := ⟨.hbm, 388, rfl⟩
abbrev main_v343 : Ref sig .tc := ⟨.hbm, 389, rfl⟩
abbrev main_v344 : Ref sig .tc := ⟨.hbm, 390, rfl⟩
abbrev main_v345 : Ref sig .tc := ⟨.hbm, 391, rfl⟩
abbrev main_v346 : Ref sig .tc := ⟨.hbm, 392, rfl⟩
abbrev main_v347 : Ref sig .tc := ⟨.hbm, 393, rfl⟩
abbrev main_cst_28 : Ref sig .tc := ⟨.hbm, 394, rfl⟩
abbrev main_v348 : Ref sig .tc := ⟨.hbm, 395, rfl⟩
abbrev main_v349 : Ref sig .tc := ⟨.hbm, 396, rfl⟩
abbrev main_v350 : Ref sig .tc := ⟨.hbm, 397, rfl⟩
abbrev main_cst_29 : Ref sig .tc := ⟨.hbm, 398, rfl⟩
abbrev main_v351 : Ref sig .tc := ⟨.hbm, 399, rfl⟩
abbrev main_v352 : Ref sig .tc := ⟨.hbm, 400, rfl⟩
abbrev main_v353 : Ref sig .tc := ⟨.hbm, 401, rfl⟩
abbrev main_v354 : Ref sig .tc := ⟨.hbm, 402, rfl⟩
abbrev main_v355 : Ref sig .tc := ⟨.hbm, 403, rfl⟩
abbrev main_v356 : Ref sig .tc := ⟨.hbm, 404, rfl⟩
abbrev main_v357 : Ref sig .tc := ⟨.hbm, 405, rfl⟩
abbrev main_v358 : Ref sig .tc := ⟨.hbm, 406, rfl⟩
abbrev main_v359 : Ref sig .tc := ⟨.hbm, 407, rfl⟩
abbrev main_v360 : Ref sig .tc := ⟨.hbm, 408, rfl⟩
abbrev main_v361 : Ref sig .tc := ⟨.hbm, 409, rfl⟩
abbrev main_v362 : Ref sig .tc := ⟨.hbm, 410, rfl⟩
abbrev main_v363 : Ref sig .tc := ⟨.hbm, 411, rfl⟩
abbrev main_v364 : Ref sig .tc := ⟨.hbm, 412, rfl⟩
abbrev main_v365 : Ref sig .tc := ⟨.hbm, 413, rfl⟩
abbrev main_v366 : Ref sig .tc := ⟨.hbm, 414, rfl⟩
abbrev main_v367 : Ref sig .tc := ⟨.hbm, 415, rfl⟩
abbrev main_v368 : Ref sig .tc := ⟨.hbm, 416, rfl⟩
abbrev main_v369 : Ref sig .tc := ⟨.hbm, 417, rfl⟩
abbrev main_v370 : Ref sig .tc := ⟨.hbm, 418, rfl⟩
abbrev main_v371 : Ref sig .tc := ⟨.hbm, 419, rfl⟩
abbrev main_v372 : Ref sig .tc := ⟨.hbm, 420, rfl⟩
abbrev main_v373 : Ref sig .tc := ⟨.hbm, 421, rfl⟩
abbrev main_cst_30 : Ref sig .tc := ⟨.hbm, 422, rfl⟩
abbrev main_v374 : Ref sig .tc := ⟨.hbm, 423, rfl⟩
abbrev main_v375 : Ref sig .tc := ⟨.hbm, 424, rfl⟩
abbrev main_v376 : Ref sig .tc := ⟨.hbm, 425, rfl⟩
abbrev main_cst_31 : Ref sig .tc := ⟨.hbm, 426, rfl⟩
abbrev main_v377 : Ref sig .tc := ⟨.hbm, 427, rfl⟩
abbrev main_v378 : Ref sig .tc := ⟨.hbm, 428, rfl⟩
abbrev main_v379 : Ref sig .tc := ⟨.hbm, 429, rfl⟩
abbrev main_v380 : Ref sig .tc := ⟨.hbm, 430, rfl⟩
abbrev main_v381 : Ref sig .tc := ⟨.hbm, 431, rfl⟩
abbrev main_v382 : Ref sig .tc := ⟨.hbm, 432, rfl⟩
abbrev main_v383 : Ref sig .tc := ⟨.hbm, 433, rfl⟩
abbrev main_v384 : Ref sig .tc := ⟨.hbm, 434, rfl⟩
abbrev main_v385 : Ref sig .tc := ⟨.hbm, 435, rfl⟩
abbrev main_v386 : Ref sig .tc := ⟨.hbm, 436, rfl⟩
abbrev main_v387 : Ref sig .tc := ⟨.hbm, 437, rfl⟩
abbrev main_v388 : Ref sig .tc := ⟨.hbm, 438, rfl⟩
abbrev main_v389 : Ref sig .tc := ⟨.hbm, 439, rfl⟩
abbrev main_v390 : Ref sig .tc := ⟨.hbm, 440, rfl⟩
abbrev main_v391 : Ref sig .tc := ⟨.hbm, 441, rfl⟩
abbrev main_v392 : Ref sig .tc := ⟨.hbm, 442, rfl⟩
abbrev main_v393 : Ref sig .tc := ⟨.hbm, 443, rfl⟩
abbrev main_v394 : Ref sig .tc := ⟨.hbm, 444, rfl⟩
abbrev main_v395 : Ref sig .tc := ⟨.hbm, 445, rfl⟩
abbrev main_v396 : Ref sig .tc := ⟨.hbm, 446, rfl⟩
abbrev main_v397 : Ref sig .tc := ⟨.hbm, 447, rfl⟩
abbrev main_v398 : Ref sig .tc := ⟨.hbm, 448, rfl⟩
abbrev main_v399 : Ref sig .tc := ⟨.hbm, 449, rfl⟩
abbrev main_cst_32 : Ref sig .tc := ⟨.hbm, 450, rfl⟩
abbrev main_v400 : Ref sig .tc := ⟨.hbm, 451, rfl⟩
abbrev main_v401 : Ref sig .tc := ⟨.hbm, 452, rfl⟩
abbrev main_v402 : Ref sig .tc := ⟨.hbm, 453, rfl⟩
abbrev main_cst_33 : Ref sig .tc := ⟨.hbm, 454, rfl⟩
abbrev main_v403 : Ref sig .tc := ⟨.hbm, 455, rfl⟩
abbrev main_v404 : Ref sig .tc := ⟨.hbm, 456, rfl⟩
abbrev main_v405 : Ref sig .tc := ⟨.hbm, 457, rfl⟩
abbrev main_v406 : Ref sig .tc := ⟨.hbm, 458, rfl⟩
abbrev main_v407 : Ref sig .tc := ⟨.hbm, 459, rfl⟩
abbrev main_v408 : Ref sig .tc := ⟨.hbm, 460, rfl⟩
abbrev main_v409 : Ref sig .tc := ⟨.hbm, 461, rfl⟩
abbrev main_v410 : Ref sig .tc := ⟨.hbm, 462, rfl⟩
abbrev main_v411 : Ref sig .tc := ⟨.hbm, 463, rfl⟩
abbrev main_v412 : Ref sig .tc := ⟨.hbm, 464, rfl⟩
abbrev main_v413 : Ref sig .tc := ⟨.hbm, 465, rfl⟩
abbrev main_v414 : Ref sig .tc := ⟨.hbm, 466, rfl⟩
abbrev main_v415 : Ref sig .tc := ⟨.hbm, 467, rfl⟩
abbrev main_v416 : Ref sig .tc := ⟨.hbm, 468, rfl⟩
abbrev main_v417 : Ref sig .tc := ⟨.hbm, 469, rfl⟩
abbrev main_v418 : Ref sig .tc := ⟨.hbm, 470, rfl⟩
abbrev main_v419 : Ref sig .tc := ⟨.hbm, 471, rfl⟩
abbrev main_v420 : Ref sig .tc := ⟨.hbm, 472, rfl⟩
abbrev main_v421 : Ref sig .tc := ⟨.hbm, 473, rfl⟩
abbrev main_v422 : Ref sig .tc := ⟨.hbm, 474, rfl⟩
abbrev main_v423 : Ref sig .tc := ⟨.hbm, 475, rfl⟩
abbrev main_v424 : Ref sig .tc := ⟨.hbm, 476, rfl⟩
abbrev main_v425 : Ref sig .tc := ⟨.hbm, 477, rfl⟩
abbrev main_cst_34 : Ref sig .tc := ⟨.hbm, 478, rfl⟩
abbrev main_v426 : Ref sig .tc := ⟨.hbm, 479, rfl⟩
abbrev main_v427 : Ref sig .tc := ⟨.hbm, 480, rfl⟩
abbrev main_v428 : Ref sig .tc := ⟨.hbm, 481, rfl⟩
abbrev main_cst_35 : Ref sig .tc := ⟨.hbm, 482, rfl⟩
abbrev main_v429 : Ref sig .tc := ⟨.hbm, 483, rfl⟩
abbrev main_v430 : Ref sig .tc := ⟨.hbm, 484, rfl⟩
abbrev main_v431 : Ref sig .tc := ⟨.hbm, 485, rfl⟩
abbrev main_v432 : Ref sig .tc := ⟨.hbm, 486, rfl⟩
abbrev main_v433 : Ref sig .tc := ⟨.hbm, 487, rfl⟩
abbrev main_v434 : Ref sig .tc := ⟨.hbm, 488, rfl⟩
abbrev main_v435 : Ref sig .tc := ⟨.hbm, 489, rfl⟩
abbrev main_v436 : Ref sig .tc := ⟨.hbm, 490, rfl⟩
abbrev main_v437 : Ref sig .tc := ⟨.hbm, 491, rfl⟩
abbrev main_v438 : Ref sig .tc := ⟨.hbm, 492, rfl⟩
abbrev main_v439 : Ref sig .tc := ⟨.hbm, 493, rfl⟩
abbrev main_v440 : Ref sig .tc := ⟨.hbm, 494, rfl⟩
abbrev main_v441 : Ref sig .tc := ⟨.hbm, 495, rfl⟩
abbrev main_v442 : Ref sig .tc := ⟨.hbm, 496, rfl⟩
abbrev main_v443 : Ref sig .tc := ⟨.hbm, 497, rfl⟩

abbrev nD : Nat := 1
abbrev τ : Topo := Topo.v7x

variable {F : FTy → Type} [FloatOps F]
-- ==== Proof.Cases.lean ====
/-
  What one grid point leaves behind, as the kernel's own vectors: the first point stores the routing weights and starts the
  output from zero, every later point adds to the output and leaves the weights as they are.
-/
module

public import proofs.«01_k».proof.Proof.Gen.KernelIdeal.Value
public import Idealize.ShloMosaic.Lib.Tactic

@[expose] public section

noncomputable section

namespace Cert.Cases

open Cert.KernelIdeal Cert.KernelIdeal.Gen
open Idealize.ShloMosaic Idealize.ShloMosaic.TcCoe Idealize.SL.Sem

/-- Two zeros, as a function. -/
theorem zero2 : (![0, 0] : Fin 2 → Nat) = fun _ => 0 := funext fun a => by fin_cases a <;> rfl
/-- Three zeros, as a function. -/
theorem zero3 : (![0, 0, 0] : Fin 3 → Nat) = fun _ => 0 := funext fun a => by fin_cases a <;> rfl

section

variable (c : Dev nD) (i : grid0.Coords)
    (a1 : Memref sig .tc .vmem S512x768 .f32) (h1 : a1.IsWhole) (a2 : Memref sig .tc .vmem S8x768 .f32)
    (h2 : a2.IsWhole) (a3 : Memref sig .tc .vmem S1x8 .f32) (h3 : a3.IsWhole) (a4 : Memref sig .tc .vmem S1x768x3072 .f32)
    (h4 : a4.IsWhole) (a5 : Memref sig .tc .vmem S1x3072x768 .f32) (h5 : a5.IsWhole) (a6 : Memref sig .tc .vmem S512x768 .f32)
    (h6 : a6.IsWhole) (a7 : Memref sig .tc .vmem S512x8 .f32) (h7 : a7.IsWhole)
    (x0 : Vec Ideal S512x768 .f32) (x1 : Vec Ideal S8x768 .f32) (x2 : Vec Ideal S1x8 .f32)
    (x3 : Vec Ideal S1x768x3072 .f32) (x4 : Vec Ideal S1x3072x768 .f32)

/-- A later point: the output held `xo` and the weights `w`; now the output holds `xo` plus the weighted expert. -/
theorem out_later (hc0 : ¬cond0_0 i) (hc1 : ¬cond0_1 i) (xo : Vec Ideal S512x768 .f32) (w : Vec Ideal S512x8 .f32) :
    out0_B_5 c i a1 h1 a2 h2 a3 h3 a4 h4 a5 h5 a6 h6 a7 h7 hc0 hc1 x0 x1 x2 x3 x4 xo w = k0_pay1 (k0_pay11 x0 x3 x4) (k0_pay12 i w) xo := by
  unfold out0_B_5
  rw [View.read_writes_eq_canon _ _ _ (cover0_B_5 c i a1 h1 a2 h2 a3 h3 a4 h4 a5 h5 a6 h6 a7 h7 hc0 hc1 x0 x1 x2 x3 x4 xo w)]
  unfold kernelRun0_B
  dsimp only
  sl_unfold_words
  rw [View.canon_unit_zero zero2]
  simp only [View.readAt_eq_ld, h1.read_unread, h4.read_unread, h5.read_unread, h6.read_unread, h7.read_unread,
    View.ld_unit_zero (S := S512x768) zero2, View.ld_unit_zero (S := S512x8) zero2,
    View.ld_unit_zero (S := S1x768x3072) zero3, View.ld_unit_zero (S := S1x3072x768) zero3]

/-- The first point's weights. -/
theorem scratch_first (hc0 : cond0_0 i) (hc1 : cond0_1 i) :
    sout0_A_0 c i a1 h1 a2 h2 a3 h3 a4 h4 a5 h5 a6 h6 a7 h7 hc0 hc1 x0 x1 x2 x3 x4 = k0_pay9 (k0_pay7 x0 x1 x2) (k0_pay8 x0 x1 x2) := by
  unfold sout0_A_0
  rw [View.read_writes_eq_canon _ _ _ (scover0_A_0 c i a1 h1 a2 h2 a3 h3 a4 h4 a5 h5 a6 h6 a7 h7 hc0 hc1 x0 x1 x2 x3 x4)]
  unfold kernelRun0_A
  dsimp only
  sl_unfold_words
  rw [View.canon_unit_zero zero2]
  simp only [View.readAt_eq_ld, h1.read_unread, h2.read_unread, h3.read_unread,
    View.ld_unit_zero (S := S512x768) zero2, View.ld_unit_zero (S := S8x768) zero2, View.ld_unit_zero (S := S1x8) zero2]
  rfl

/-- The first point's output: zero plus the weighted expert. -/
theorem out_first (hc0 : cond0_0 i) (hc1 : cond0_1 i) :
    out0_A_5 c i a1 h1 a2 h2 a3 h3 a4 h4 a5 h5 a6 h6 a7 h7 hc0 hc1 x0 x1 x2 x3 x4
      = k0_pay1 (k0_pay11 x0 x3 x4) (k0_pay12 i (k0_pay9 (k0_pay7 x0 x1 x2) (k0_pay8 x0 x1 x2))) (k0_pay10 (F := Ideal)) := by
  unfold out0_A_5
  rw [View.read_writes_eq_canon _ _ _ (cover0_A_5 c i a1 h1 a2 h2 a3 h3 a4 h4 a5 h5 a6 h6 a7 h7 hc0 hc1 x0 x1 x2 x3 x4)]
  unfold kernelRun0_A
  dsimp only
  sl_unfold_words
  rw [View.canon_cons_unit_zero (S := S512x768) zero2, View.readCov_unit_zero (S := S512x768) _ zero2,
    View.readCov_unit_zero (S := S512x8) _ zero2]
  simp only [View.readAt_eq_ld, h1.read_unread, h2.read_unread, h3.read_unread, h4.read_unread, h5.read_unread,
    View.ld_unit_zero (S := S512x768) zero2, View.ld_unit_zero (S := S8x768) zero2, View.ld_unit_zero (S := S1x8) zero2,
    View.ld_unit_zero (S := S1x768x3072) zero3, View.ld_unit_zero (S := S1x3072x768) zero3]
  rfl

end

end Cert.Cases

end
-- ==== Proof.Top2.lean ====
/-
  The two greatest of eight extended reals, ties to the lower position: what "maximum, first position equal to it, mask
  it with −∞, maximum again" finds, and that the first two positions of a stable descending sort are the same two.
-/
module

public import Idealize.ShloMosaic.Lib.SortPrefix
public import Idealize.ShloMosaic.Lib.SortNet.Extract
public import Idealize.ShloMosaic.PureOps.Ideal

@[expose] public section

noncomputable section

namespace Cert.Top2

open Idealize.ShloMosaic

/-- Position `i` sorts before position `j`: its entry is greater, or equal with `i` the lower position. -/
def before (p : Fin 8 → EReal) (i j : Fin 8) : Bool :=
  decide (p j < p i) || (decide (p i = p j) && decide (i < j))

/-- That order is strict and total. -/
theorem before_total (p : Fin 8 → EReal) : StrictTotalBefore (before p) :=
  StrictTotalBefore.of_key_then_position (fun a b : EReal => decide (b < a)) p (fun a => by simp)
    (fun a b c hab hbc => by simp only [decide_eq_true_eq] at *; exact hbc.trans hab)
    (fun a b => by
      simp only [decide_eq_true_eq]
      rcases lt_trichotomy a b with h | h | h
      · exact Or.inr (Or.inr h)
      · exact Or.inr (Or.inl h)
      · exact Or.inl h)

/-- The compare a sort of the entries alone makes: greater first, positions not looked at. -/
def greater (p : Fin 8 → EReal) (i j : Fin 8) : Bool := Ideal.cmp .ogt (p i) (p j) == 1#1

/-- Place `i` comes before place `j` in descending order when its entry is the larger. -/
theorem greater_eq (p : Fin 8 → EReal) (i j : Fin 8) : greater p i j = decide (p j < p i) := by
  unfold greater Ideal.cmp
  by_cases h : p j < p i <;> simp [h]

/-- Two compares that agree when the later position is asked first sort an ascending list alike: an insertion sort
    never asks the other way round. -/
theorem stableSort_eq_of_later (R R' : Fin 8 → Fin 8 → Bool) (h : ∀ a b, a < b → R b a = R' b a) :
    ∀ l : List (Fin 8), l.Pairwise (· < ·) → stableSort R l = stableSort R' l
  | [], _ => rfl
  | a :: l, hl => by
    rw [List.pairwise_cons] at hl
    unfold stableSort
    rw [stableSort_eq_of_later R R' h l hl.2]
    exact insertBefore_congr R R' a _ fun b hb => h a b (hl.1 b ((perm_stableSort R' l).mem_iff.mp hb))

/-- So the stable sort by the entries alone is the sort by entry and then position. -/
theorem sortedFrom_greater (p : Fin 8 → EReal) : sortedFrom (greater p) = sortedFrom (before p) := by
  have e : sortPositions 8 (greater p) = sortPositions 8 (before p) :=
    stableSort_eq_of_later _ _ (fun a b hab => by
      rw [greater_eq]; unfold before
      simp [not_lt.mpr hab.le]) _ (List.pairwise_lt_finRange 8)
  funext k
  unfold sortedFrom
  rw [List.get_of_eq e]
  rfl

/-- `i` holds the greatest entry, and no position below it does. -/
structure First (p : Fin 8 → EReal) (i : Fin 8) : Prop where
  le : ∀ k, p k ≤ p i
  lt : ∀ k, k < i → p k < p i

/-- `j` holds the greatest entry but that of `i`, and no position below it does. -/
structure Second (p : Fin 8 → EReal) (i j : Fin 8) : Prop where
  ne : j ≠ i
  le : ∀ k, k ≠ i → p k ≤ p j
  lt : ∀ k, k ≠ i → k < j → p k < p j

/-- The first two positions of the stable descending sort are the two so described. -/
theorem sortedFrom_of (p : Fin 8 → EReal) {i j : Fin 8} (h1 : First p i) (h2 : Second p i j) :
    sortedFrom (greater p) 0 = i ∧ sortedFrom (greater p) 1 = j := by
  rw [sortedFrom_greater]
  have notBefore : ∀ {a b : Fin 8}, p b ≤ p a → (b < a → p b < p a) → before p b a = false := by
    intro a b hle hlt
    unfold before
    have h0 : ¬ p a < p b := not_lt.mpr hle
    by_cases e : p b = p a
    · have : ¬ b < a := fun h => absurd e (hlt h).ne
      simp [h0, this]
    · simp [h0, e]
  have key := (before_total p).sortedFrom_eq_of_prefix (k := 2) (by decide) ![i, j]
    (by
      intro a b hab
      fin_cases a <;> fin_cases b <;> simp at hab ⊢
      · exact h2.ne hab.symm
      · exact h2.ne hab)
    (by
      intro a b hab
      fin_cases a <;> fin_cases b <;> simp at hab ⊢
      exact notBefore (h1.le j) (h1.lt j))
    (by
      intro a k hk
      have hi : k ≠ i := fun e => hk 0 e.symm
      have hj : k ≠ j := fun e => hk 1 e.symm
      fin_cases a
      · exact notBefore (h1.le k) (h1.lt k)
      · exact notBefore (h2.le k hi) (h2.lt k hi))
  exact ⟨key 0, key 1⟩

/-! ## Maximum, then the first position equal to it -/

/-- The greatest entry, as a maximum from −∞. -/
def greatest (q : Fin 8 → EReal) : EReal := Finset.univ.fold max ⊥ q

/-- The least position whose entry equals `M`, as a minimum of words (8 where the entry differs). -/
def firstWord (q : Fin 8 → EReal) (M : EReal) : BitVec 32 :=
  Finset.univ.fold IntOp.minsi 2147483647#32 fun k : Fin 8 =>
    Scalar.select (Ideal.cmp .oeq (q k) M) (BitVec.ofNat 32 k.val) 8#32

/-- No entry exceeds the greatest. -/
theorem le_greatest (q : Fin 8 → EReal) (k : Fin 8) : q k ≤ greatest q :=
  (Finset.le_fold_max _).mpr (Or.inr ⟨k, Finset.mem_univ _, le_rfl⟩)

/-- The greatest is one of the entries. -/
theorem exists_eq_greatest (q : Fin 8 → EReal) : ∃ k, q k = greatest q := by
  obtain ⟨k, -, hk⟩ := Finset.exists_max_image Finset.univ q Finset.univ_nonempty
  exact ⟨k, le_antisymm (le_greatest q k) ((Finset.fold_max_le _).mpr ⟨bot_le, fun x hx => hk x hx⟩)⟩

/-- Words compare as their positions. -/
theorem toInt_ofNat (k : Fin 8) : (BitVec.ofNat 32 k.val).toInt = (k.val : ℤ) := by
  revert k; decide

/-- The test of equality, as a word. -/
theorem cmp_oeq (a b : EReal) : Ideal.cmp .oeq a b = BitVec.ofBool (decide (a = b)) := by
  unfold Ideal.cmp; rfl

/-- A selection on the word of a test. -/
theorem select_ofBool {α : Type} (c : Prop) [Decidable c] (a b : α) :
    Scalar.select (BitVec.ofBool (decide c)) a b = if c then a else b := by
  by_cases h : c <;> simp [h, Scalar.select]

/-- The maximum and that position: the position is the first of the greatest entries. -/
theorem greatest_firstWord (q : Fin 8 → EReal) :
    ∃ i, First q i ∧ greatest q = q i ∧ firstWord q (greatest q) = BitVec.ofNat 32 i.val := by
  classical
  have hne : (Finset.univ.filter fun k => q k = greatest q).Nonempty := by
    obtain ⟨k, hk⟩ := exists_eq_greatest q
    exact ⟨k, by simp [hk]⟩
  obtain ⟨i, hi⟩ : ∃ i, i = (Finset.univ.filter fun k => q k = greatest q).min' hne := ⟨_, rfl⟩
  have hiM : q i = greatest q := by
    have := Finset.min'_mem _ hne
    rw [← hi] at this
    simpa using this
  have hmin : ∀ k, q k = greatest q → i ≤ k := fun k hk => by
    rw [hi]; exact Finset.min'_le _ _ (by simp [hk])
  refine ⟨i, ⟨fun k => hiM ▸ le_greatest q k, fun k hk => ?_⟩, hiM.symm, ?_⟩
  · refine lt_of_le_of_ne (hiM ▸ le_greatest q k) fun e => ?_
    exact absurd (hmin k (e.trans hiM)) (not_le.mpr hk)
  · apply BitVec.eq_of_toInt_eq
    rw [toInt_ofNat]
    unfold firstWord
    rw [← Finset.fold_hom (op' := min) (m := BitVec.toInt) (fun x y => Idealize.ShloMosaic.SortNet.toInt_minsi x y)]
    simp only [cmp_oeq, select_ofBool]
    have hi8 : (i.val : ℤ) < 8 := by exact_mod_cast i.isLt
    apply le_antisymm
    · refine (Finset.fold_min_le _).mpr (Or.inr ⟨i, Finset.mem_univ _, ?_⟩)
      rw [if_pos hiM, toInt_ofNat]
    · refine (Finset.le_fold_min _).mpr ⟨?_, fun k _ => ?_⟩
      · rw [show (2147483647#32 : BitVec 32).toInt = 2147483647 by decide]; omega
      · by_cases h : q k = greatest q
        · rw [if_pos h, toInt_ofNat]; exact_mod_cast hmin k h
        · rw [if_neg h, show (8#32 : BitVec 32).toInt = 8 by decide]; omega

/-- Words of positions are equal exactly when the positions are. -/
theorem cmpi_eq_word (e i : Fin 8) :
    IntOp.cmpi .eq (BitVec.ofNat 32 e.val) (BitVec.ofNat 32 i.val) = BitVec.ofBool (decide (e = i)) := by
  revert e i; decide

/-- The entries with position `i`'s replaced by −∞. -/
def without (p : Fin 8 → EReal) (w : BitVec 32) (k : Fin 8) : EReal :=
  Scalar.select (IntOp.cmpi .eq (BitVec.ofNat 32 k.val) w) ⊥ (p k)

/-- The row with place `i` taken out: −∞ there, the entries elsewhere. -/
theorem without_word (p : Fin 8 → EReal) (i k : Fin 8) : without p (BitVec.ofNat 32 i.val) k = if k = i then ⊥ else p k := by
  unfold without; rw [cmpi_eq_word, select_ofBool]

/-- Where no entry is −∞, the maximum without the first and its first position are the second greatest and its. -/
theorem second_of (p : Fin 8 → EReal) (hp : ∀ k, p k ≠ ⊥) (i : Fin 8) :
    ∃ j, Second p i j ∧ greatest (without p (BitVec.ofNat 32 i.val)) = p j
      ∧ firstWord (without p (BitVec.ofNat 32 i.val)) (greatest (without p (BitVec.ofNat 32 i.val))) = BitVec.ofNat 32 j.val := by
  obtain ⟨j, hj, hM, hW⟩ := greatest_firstWord (without p (BitVec.ofNat 32 i.val))
  have hne : j ≠ i := by
    rintro rfl
    obtain ⟨k, hk⟩ : ∃ k : Fin 8, k ≠ j := exists_ne j
    have := hj.le k
    rw [without_word, without_word, if_neg hk, if_pos rfl, le_bot_iff] at this
    exact hp k this
  have hval : without p (BitVec.ofNat 32 i.val) j = p j := by rw [without_word, if_neg hne]
  refine ⟨j, ⟨hne, fun k hk => ?_, fun k hk hlt => ?_⟩, hM.trans hval, hW⟩
  · have := hj.le k
    rwa [hval, without_word, if_neg hk] at this
  · have := hj.lt k hlt
    rwa [hval, without_word, if_neg hk] at this

end Cert.Top2

end
-- ==== Proof.Routing.lean ====
/-
  One row of the routing: the softmax of eight scores, the weight the kernel gives each expert (the entry over the sum of
  the two greatest, where the expert is one of the two, and zero elsewhere), and the weighted sum of eight numbers as the
  reference writes it, choice by choice over the sorted row.
-/
module

public import proofs.«01_k».proof.Proof.Top2

@[expose] public section

noncomputable section

namespace Cert.Routing

open Idealize.ShloMosaic Cert.Top2

/-- The softmax of a row of scores, entry `e`. -/
def softmax (l : Fin 8 → EReal) (e : Fin 8) : EReal :=
  Ideal.div (Ideal.exp (l e - greatest l)) (∑ k, Ideal.exp (l k - greatest l))

/-- An exponential is not negative. -/
theorem exp_nonneg (x : EReal) : 0 ≤ Ideal.exp x := by
  induction x with
  | bot => exact le_rfl
  | top => exact le_top
  | coe r => exact EReal.coe_nonneg.mpr (Real.exp_pos r).le

/-- A softmax row holds −∞ nowhere or everywhere (everywhere when the exponentials are all zero). -/
theorem softmax_bot (l : Fin 8 → EReal) : (∀ k, softmax l k ≠ ⊥) ∨ ∀ k, softmax l k = ⊥ := by
  by_cases hS : ∑ k, Ideal.exp (l k - greatest l) = 0
  · refine Or.inr fun k => ?_
    have h0 : Ideal.exp (l k - greatest l) = 0 :=
      (Finset.sum_eq_zero_iff_of_nonneg fun k _ => exp_nonneg _).mp hS k (Finset.mem_univ k)
    unfold softmax
    rw [hS, h0, Ideal.div, if_pos rfl, if_neg (lt_irrefl _)]
  · refine Or.inl fun k => ?_
    have h : 0 ≤ softmax l k := by
      unfold softmax
      rw [Ideal.div, if_neg hS]
      exact mul_nonneg (exp_nonneg _) (EReal.inv_nonneg_of_nonneg (Finset.sum_nonneg fun k _ => exp_nonneg _))
    exact ((EReal.bot_lt_zero).trans_le h).ne'

/-- The row with its first greatest entry replaced by −∞. -/
def rest (p : Fin 8 → EReal) : Fin 8 → EReal := without p (firstWord p (greatest p))

/-- The weight the kernel gives expert `e`. -/
def weight (p : Fin 8 → EReal) (e : Fin 8) : EReal :=
  Scalar.select
    (IntOp.ori (IntOp.cmpi .eq (BitVec.ofNat 32 e.val) (firstWord p (greatest p)))
      (IntOp.cmpi .eq (BitVec.ofNat 32 e.val) (firstWord (rest p) (greatest (rest p)))))
    (Ideal.div (p e) (greatest p + greatest (rest p))) 0

/-- The expert of choice `k`: position `k` of the row's stable descending sort. -/
def choice (p : Fin 8 → EReal) (k : Fin 8) : Fin 8 := sortedFrom (greater p) k

/-- The weight of choice `k`: its entry over the sum of the two chosen. -/
def share (p : Fin 8 → EReal) (k : Fin 8) : EReal :=
  Ideal.div (p (choice p k)) (p (choice p 0) + p (choice p 1))

/-- A quotient by −∞ is zero. -/
theorem div_bot (x : EReal) : Ideal.div x ⊥ = 0 := by
  rw [Ideal.div, if_neg (by exact EReal.bot_ne_zero), EReal.inv_bot, mul_zero]

/-- A selection on the disjunction of two tests. -/
theorem select_or (a b : Prop) [Decidable a] [Decidable b] (x y : EReal) :
    Scalar.select (IntOp.ori (BitVec.ofBool (decide a)) (BitVec.ofBool (decide b))) x y = if a ∨ b then x else y := by
  by_cases ha : a <;> by_cases hb : b <;> simp [ha, hb, Scalar.select, IntOp.ori]

/-- In a row without −∞ the two choices are different experts, and the kernel's weight of an expert is the share of the
    choice that chose it, zero where none did. -/
theorem weight_eq (p : Fin 8 → EReal) (hp : ∀ k, p k ≠ ⊥) :
    choice p 1 ≠ choice p 0 ∧ ∀ e, weight p e = if e = choice p 0 then share p 0 else if e = choice p 1 then share p 1 else 0 := by
  obtain ⟨i, hi, hM, hW⟩ := greatest_firstWord p
  obtain ⟨j, hj, hM2, hW2⟩ := second_of p hp i
  obtain ⟨c0, c1⟩ := sortedFrom_of p hi hj
  change choice p 0 = i at c0
  change choice p 1 = j at c1
  refine ⟨by rw [c0, c1]; exact hj.ne, fun e => ?_⟩
  unfold weight rest share
  rw [hW, hW2, hM2, hM, cmpi_eq_word, cmpi_eq_word, select_or, c0, c1]
  by_cases h0 : e = i
  · subst h0; simp
  · by_cases h1 : e = j
    · subst h1; simp [h0]
    · simp [h0, h1]

/-- In a row of −∞ every weight and every share is zero. -/
theorem weight_bot (p : Fin 8 → EReal) (hp : ∀ k, p k = ⊥) (e : Fin 8) : weight p e = 0 := by
  have hg : greatest p = ⊥ := by
    obtain ⟨k, hk⟩ := exists_eq_greatest p
    rw [← hk, hp]
  unfold weight
  rw [hg, EReal.bot_add, div_bot]
  unfold Scalar.select; split <;> rfl

/-- Where every entry is −∞ each choice's share is zero. -/
theorem share_bot (p : Fin 8 → EReal) (hp : ∀ k, p k = ⊥) (k : Fin 8) : share p k = 0 := by
  unfold share
  rw [hp (choice p 0), EReal.bot_add, div_bot]

/-- One where expert `e` is the chosen one, zero elsewhere. -/
def chosen (p : Fin 8 → EReal) (k e : Fin 8) : EReal := if choice p k = e then 1 else 0

/-- The sum of the experts' outputs by the kernel's weights is the sum over the two choices and the experts of output
    times share times indicator. -/
theorem routed (p : Fin 8 → EReal) (hp : (∀ k, p k ≠ ⊥) ∨ ∀ k, p k = ⊥) (y : Fin 8 → EReal) :
    ∑ e, weight p e * y e
      = ∑ e, y e * (share p 0 * chosen p 0 e) + ∑ e, y e * (share p 1 * chosen p 1 e) := by
  rw [← Finset.sum_add_distrib]
  refine Finset.sum_congr rfl fun e _ => ?_
  rcases hp with hp | hp
  · obtain ⟨hne, hw⟩ := weight_eq p hp
    rw [hw e]
    unfold chosen
    by_cases h0 : e = choice p 0
    · subst h0; simp [hne, mul_comm]
    · by_cases h1 : e = choice p 1
      · subst h1; simp [h0, hne.symm, mul_comm]
      · simp [h0, h1, Ne.symm h0, Ne.symm h1]
  · rw [weight_bot p hp, share_bot p hp, share_bot p hp]; simp

end Cert.Routing

end
-- ==== Proof.Gelu.lean ====
/-
  The exact GELU on the extended reals, in its two spellings: by the error function of `h · (√2)⁻¹`, and by the
  complementary error function of `−h / √2`.
-/
module

public import Idealize.ShloMosaic.PureOps.Ideal.Laws
public import Idealize.ShloMosaic.Lib.IdealHost

@[expose] public section

noncomputable section

namespace Cert.Gelu

open Idealize.ShloMosaic

/-- The pattern 0x40000000 denotes two. -/
theorem ofBits_two : Ideal.ofBits .f32 0x40000000#32 = ((2 : ℝ) : EReal) := by
  simp [Ideal.ofBits, Ideal.ieee, -EReal.coe_mul]; norm_num

/-- The pattern 0xFF800000 denotes −∞. -/
theorem ofBits_negInf : Ideal.ofBits .f32 0xFF800000#32 = ⊥ := by
  simp [Ideal.ofBits, Ideal.ieee]

/-- The root of two, of the pattern. -/
theorem sqrt_two : Ideal.sqrt (Ideal.ofBits .f32 0x40000000#32) = ((Real.sqrt 2 : ℝ) : EReal) := by
  rw [ofBits_two]
  show (if (2 : ℝ) < 0 then (⊥ : EReal) else ((Real.sqrt 2 : ℝ) : EReal)) = _
  rw [if_neg (by norm_num)]

/-- Dividing by the root of two is multiplying by its inverse. -/
theorem div_sqrt_two (x : EReal) :
    Ideal.div x (Ideal.sqrt (Ideal.ofBits .f32 0x40000000#32)) = x * (((Real.sqrt 2)⁻¹ : ℝ) : EReal) := by
  rw [sqrt_two]
  have h : ((Real.sqrt 2 : ℝ) : EReal) ≠ 0 := by
    rw [Ne, EReal.coe_eq_zero]; positivity
  rw [Ideal.div, if_neg h, EReal.coe_inv]

/-- GELU as the reference writes it is GELU as the kernel writes it, at every extended real. -/
theorem erfc_eq_erf (h : EReal) :
    Ideal.erfc (Ideal.div (-h) (Ideal.sqrt (Ideal.ofBits .f32 0x40000000#32)))
      = 1 + Ideal.erf (h * (((Real.sqrt 2)⁻¹ : ℝ) : EReal)) := by
  rw [div_sqrt_two, EReal.neg_mul, Ideal.erfc_neg]

/-- Entry `f` of an expert's hidden layer at one token: the token's row against column `f` of the first weights. -/
def hidden (x : Fin 768 → EReal) (w1 : Fin 768 → Fin 3072 → EReal) (f : Fin 3072) : EReal := ∑ h, x h * w1 h f

/-- An expert's output at one token and one column: GELU of the hidden layer against the column of the second weights. -/
def expert (x : Fin 768 → EReal) (w1 : Fin 768 → Fin 3072 → EReal) (w2 : Fin 3072 → EReal) : EReal :=
  ∑ f, Ideal.ofBits .f32 0x3F000000#32 * hidden x w1 f
    * (1 + Ideal.erf (hidden x w1 f * (((Real.sqrt 2)⁻¹ : ℝ) : EReal))) * w2 f

/-- The reference's pass over one expert and one choice: the token's row is multiplied by an indicator before the expert
    and the output by share times indicator after it. Where the indicator is zero both sides are zero; where it is one
    the row is the token's own. -/
theorem pass (x : Fin 768 → EReal) (w1 : Fin 768 → Fin 3072 → EReal) (w2 : Fin 3072 → EReal) (s k : EReal) (hk : k = 0 ∨ k = 1) :
    (∑ f, Ideal.ofBits .f32 0x3F000000#32 * (∑ h, x h * k * w1 h f)
        * Ideal.erfc (Ideal.div (-(∑ h, x h * k * w1 h f)) (Ideal.sqrt (Ideal.ofBits .f32 0x40000000#32))) * w2 f) * (s * k)
      = expert x w1 w2 * (s * k) := by
  rcases hk with rfl | rfl
  · simp only [mul_zero]
  · simp only [mul_one, erfc_eq_erf]
    rfl

end Cert.Gelu

end
-- ==== Proof.Block.lean ====
/-
  What the kernel computes on one block: each vector the kernel builds, at one index, as extended reals.
-/
module

public import proofs.«01_k».proof.Proof.Gen.KernelIdeal.Skeleton
public import proofs.«01_k».proof.Proof.Routing
public import proofs.«01_k».proof.Proof.Gelu
public import Idealize.ShloMosaic.Lib.Pointwise

@[expose] public section

set_option maxRecDepth 16384

noncomputable section

namespace Cert.Block

open Idealize.ShloMosaic Cert.KernelIdeal Cert.KernelIdeal.Gen Cert.Top2 Cert.Routing

/-- The router's score of expert `e` for row `n`. -/
def score (x : Vec Ideal S512x768 .f32) (rw : Vec Ideal S8x768 .f32) (rb : Vec Ideal S1x8 .f32) (n : Fin 512) (e : Fin 8) : EReal :=
  (∑ h, x (ix2 n h) * rw (ix2 e h)) + rb (ix2 0 e)

section Router

variable (x : Vec Ideal S512x768 .f32) (rw : Vec Ideal S8x768 .f32) (rb : Vec Ideal S1x8 .f32) (n : Fin 512)

/-- The softmax of row `n`'s scores. -/
theorem pay2_at (e : Fin 8) : k0_pay2 (F := Ideal) x rw rb (ix2 n e) = softmax (score x rw rb n) e := by
  unfold k0_pay2
  pointwise
  rw [Cert.Gelu.ofBits_negInf]
  rfl

/-- The greatest probability of row `n`. -/
theorem pay3_at : k0_pay3 (F := Ideal) x rw rb (ix2 n 0) = greatest (softmax (score x rw rb n)) := by
  unfold k0_pay3
  pointwise
  rw [Cert.Gelu.ofBits_negInf]
  simp only [pay2_at]
  rfl

/-- A minimum of positions taken where an equation holds is the first position's word. -/
theorem firstWord_eq (q : Fin 8 → EReal) (M : EReal) :
    Finset.univ.fold IntOp.minsi 2147483647#32 (fun k : Fin 8 => if q k = M then BitVec.ofNat 32 k.val else 8#32) = firstWord q M := by
  unfold firstWord
  simp only [cmp_oeq, select_ofBool]

/-- Whether expert `e` is row `n`'s first of greatest probability. -/
theorem pay4_at (e : Fin 8) :
    k0_pay4 (F := Ideal) x rw rb (ix2 n e)
      = IntOp.cmpi .eq (BitVec.ofNat 32 e.val) (firstWord (softmax (score x rw rb n)) (greatest (softmax (score x rw rb n)))) := by
  unfold k0_pay4
  pointwise
  simp only [pay2_at, pay3_at]
  rw [firstWord_eq (softmax (score x rw rb n))]

/-- Row `n`'s probabilities with that expert's replaced by −∞. -/
theorem pay5_at (e : Fin 8) : k0_pay5 (F := Ideal) x rw rb (ix2 n e) = rest (softmax (score x rw rb n)) e := by
  unfold k0_pay5
  pointwise
  simp only [pay2_at, pay4_at]
  rw [Cert.Gelu.ofBits_negInf]
  rfl

/-- The greatest of those. -/
theorem pay6_at : k0_pay6 (F := Ideal) x rw rb (ix2 n 0) = greatest (rest (softmax (score x rw rb n))) := by
  unfold k0_pay6
  pointwise
  rw [Cert.Gelu.ofBits_negInf]
  simp only [pay5_at]
  rfl

/-- The routing weight of expert `e` for row `n`, as stored in the scratch. -/
theorem pay9_at (e : Fin 8) :
    k0_pay9 (F := Ideal) (k0_pay7 x rw rb) (k0_pay8 x rw rb) (ix2 n e) = weight (softmax (score x rw rb n)) e := by
  unfold k0_pay9 k0_pay7 k0_pay8
  pointwise
  simp only [pay2_at, pay3_at, pay4_at, pay5_at, pay6_at]
  rw [firstWord_eq (rest (softmax (score x rw rb n)))]
  rfl

end Router

/-- The column of the weights a grid point reads: its own expert's. -/
theorem pay12_at (i : grid0.Coords) (v : Vec Ideal S512x8 .f32) (n : Fin 512) (e : Fin 8) (he : (i 0).val = e.val) :
    k0_pay12 (F := Ideal) i v (ix2 n 0) = v (ix2 n e) := by
  unfold k0_pay12
  pointwise
  simp only [he, cmpi_eq_word, select_ofBool]
  simp

/-- The expert's output, over the block of weights the grid point holds. -/
theorem pay11_at (x : Vec Ideal S512x768 .f32) (w1 : Vec Ideal S1x768x3072 .f32) (w2 : Vec Ideal S1x3072x768 .f32)
    (n : Fin 512) (d : Fin 768) :
    k0_pay11 (F := Ideal) x w1 w2 (ix2 n d)
      = Cert.Gelu.expert (fun h => x (ix2 n h)) (fun h f => w1 (ix3 0 h f)) (fun f => w2 (ix3 0 f d)) := by
  unfold k0_pay11
  pointwise
  rfl

/-- The accumulation: what was there, plus weight times output. -/
theorem pay1_at (y : Vec Ideal S512x768 .f32) (w : Vec Ideal S512x1 .f32) (acc : Vec Ideal S512x768 .f32) (n : Fin 512) (d : Fin 768) :
    k0_pay1 (F := Ideal) y w acc (ix2 n d) = acc (ix2 n d) + w (ix2 n 0) * y (ix2 n d) := by
  unfold k0_pay1
  pointwise

/-- The block the first grid point starts from is zero. -/
theorem pay10_at (n : Fin 512) (d : Fin 768) : k0_pay10 (F := Ideal) (ix2 n d) = 0 := by
  unfold k0_pay10
  pointwise

end Cert.Block

end
-- ==== Proof.Array.lean ====
/-
  What the kernel's result array holds: at row `n` and column `d`, the sum over the eight experts of the row's routing
  weight times the expert's output.
-/
module

public import proofs.«01_k».proof.Proof.Cases
public import proofs.«01_k».proof.Proof.Block

@[expose] public section

set_option maxRecDepth 16384

noncomputable section

namespace Cert.Array

open Cert.KernelIdeal Cert.KernelIdeal.Gen
open Idealize.ShloMosaic Idealize.ShloMosaic.TcCoe Idealize.SL.Sem
open Cert.Block Cert.Routing

variable (m : (ℓ : Loc nD τ sig) → Buf (Elt Ideal) ℓ) (c : Dev nD)

/-- The tokens, 512 rows of 768. -/
abbrev tokens : Vec Ideal S512x768 .f32 := shapeCast S512x768 (m ((c : Thread nD τ).loc main_arg0)) shapeCasts_S32x16x768_S512x768
/-- The router's weights. -/
abbrev router : Vec Ideal S8x768 .f32 := m ((c : Thread nD τ).loc main_arg1)
/-- The router's bias, as a row. -/
abbrev bias : Vec Ideal S1x8 .f32 := shapeCast S1x8 (m ((c : Thread nD τ).loc main_arg2)) shapeCasts_S8_S1x8
/-- The experts' first weights. -/
abbrev first : Vec Ideal S8x768x3072 .f32 := m ((c : Thread nD τ).loc main_arg3)
/-- The experts' second weights. -/
abbrev second : Vec Ideal S8x3072x768 .f32 := m ((c : Thread nD τ).loc main_arg4)

/-- The call's first operand is the tokens, one per row. -/
theorem V_tokens : V m c main_v0 = tokens m c := rfl
/-- Its third is the bias as one row. -/
theorem V_bias : V m c main_v1 = bias m c := rfl

/-- A grid point's coordinate is its number. -/
theorem coord (t : Fin cfg0.N) : (grid0.coords t 0).val = t.val := by
  revert t; exact (by decide +kernel : ∀ t : Fin grid0.N, (grid0.coords t 0).val = t.val)

/-- The windows' block indices: the experts' weights move with the point, everything else stays. -/
theorem index0 (t : Fin cfg0.N) : win0_0.index t = fun _ => 0 := by
  revert t; exact (by decide +kernel : ∀ t : Fin grid0.N, win0_0.index t = fun _ => 0)
/-- The router's block is the same at every step. -/
theorem index1 (t : Fin cfg0.N) : win0_1.index t = fun _ => 0 := by
  revert t; exact (by decide +kernel : ∀ t : Fin grid0.N, win0_1.index t = fun _ => 0)
/-- So is the bias's. -/
theorem index2 (t : Fin cfg0.N) : win0_2.index t = fun _ => 0 := by
  revert t; exact (by decide +kernel : ∀ t : Fin grid0.N, win0_2.index t = fun _ => 0)
/-- Step `t` reads the first weights of expert `t`. -/
theorem index3 (t : Fin cfg0.N) : win0_3.index t = ![t.val, 0, 0] := by
  revert t; exact (by decide +kernel : ∀ t : Fin grid0.N, win0_3.index t = ![t.val, 0, 0])
/-- And its second weights. -/
theorem index4 (t : Fin cfg0.N) : win0_4.index t = ![t.val, 0, 0] := by
  revert t; exact (by decide +kernel : ∀ t : Fin grid0.N, win0_4.index t = ![t.val, 0, 0])

/-- The grid point's block of the tokens is the tokens. -/
theorem iblk0 (t : Fin cfg0.N) : (iblk m c 0 t : Vec Ideal S512x768 .f32) = tokens m c := by
  funext j
  unfold iblk
  rw [View.read_apply]
  show V m c main_v0 _ = tokens m c j
  rw [V_tokens]
  congr 1
  funext a
  apply Fin.ext
  match a with
  | ⟨0, _⟩ => show win0_0.index t 0 * 512 + 1 * (j 0).val = (j 0).val; rw [index0]; show 0 * 512 + 1 * (j 0).val = (j 0).val; omega
  | ⟨1, _⟩ => show win0_0.index t 1 * 768 + 1 * (j 1).val = (j 1).val; rw [index0]; show 0 * 768 + 1 * (j 1).val = (j 1).val; omega

/-- Its block of the router's weights is the router's weights. -/
theorem iblk1 (t : Fin cfg0.N) : (iblk m c 1 t : Vec Ideal S8x768 .f32) = router m c := by
  funext j
  unfold iblk
  rw [View.read_apply]
  show V m c main_arg1 _ = router m c j
  rw [V_main_arg1]
  congr 1
  funext a
  apply Fin.ext
  match a with
  | ⟨0, _⟩ => show win0_1.index t 0 * 8 + 1 * (j 0).val = (j 0).val; rw [index1]; show 0 * 8 + 1 * (j 0).val = (j 0).val; omega
  | ⟨1, _⟩ => show win0_1.index t 1 * 768 + 1 * (j 1).val = (j 1).val; rw [index1]; show 0 * 768 + 1 * (j 1).val = (j 1).val; omega

/-- Its block of the bias is the bias. -/
theorem iblk2 (t : Fin cfg0.N) : (iblk m c 2 t : Vec Ideal S1x8 .f32) = bias m c := by
  funext j
  unfold iblk
  rw [View.read_apply]
  show V m c main_v1 _ = bias m c j
  rw [V_bias]
  congr 1
  funext a
  apply Fin.ext
  match a with
  | ⟨0, _⟩ => show win0_2.index t 0 * 1 + 1 * (j 0).val = (j 0).val; rw [index2]; show 0 * 1 + 1 * (j 0).val = (j 0).val; omega
  | ⟨1, _⟩ => show win0_2.index t 1 * 8 + 1 * (j 1).val = (j 1).val; rw [index2]; show 0 * 8 + 1 * (j 1).val = (j 1).val; omega

/-- Its block of the first weights is its own expert's. -/
theorem iblk3 (t : Fin cfg0.N) (e : Fin 8) (he : t.val = e.val) (h : Fin 768) (f : Fin 3072) :
    (iblk m c 3 t : Vec Ideal S1x768x3072 .f32) (ix3 0 h f) = first m c (ix3 e h f) := by
  unfold iblk
  rw [View.read_apply]
  show V m c main_arg3 _ = first m c _
  rw [V_main_arg3]
  congr 1
  funext a
  apply Fin.ext
  match a with
  | ⟨0, _⟩ => show win0_3.index t 0 * 1 + 1 * 0 = e.val; rw [index3]; show t.val * 1 + 1 * 0 = e.val; omega
  | ⟨1, _⟩ => show win0_3.index t 1 * 768 + 1 * h.val = h.val; rw [index3]; show 0 * 768 + 1 * h.val = h.val; omega
  | ⟨2, _⟩ => show win0_3.index t 2 * 3072 + 1 * f.val = f.val; rw [index3]; show 0 * 3072 + 1 * f.val = f.val; omega

/-- Its block of the second weights is its own expert's. -/
theorem iblk4 (t : Fin cfg0.N) (e : Fin 8) (he : t.val = e.val) (f : Fin 3072) (d : Fin 768) :
    (iblk m c 4 t : Vec Ideal S1x3072x768 .f32) (ix3 0 f d) = second m c (ix3 e f d) := by
  unfold iblk
  rw [View.read_apply]
  show V m c main_arg4 _ = second m c _
  rw [V_main_arg4]
  congr 1
  funext a
  apply Fin.ext
  match a with
  | ⟨0, _⟩ => show win0_4.index t 0 * 1 + 1 * 0 = e.val; rw [index4]; show t.val * 1 + 1 * 0 = e.val; omega
  | ⟨1, _⟩ => show win0_4.index t 1 * 3072 + 1 * f.val = f.val; rw [index4]; show 0 * 3072 + 1 * f.val = f.val; omega
  | ⟨2, _⟩ => show win0_4.index t 2 * 768 + 1 * d.val = d.val; rw [index4]; show 0 * 768 + 1 * d.val = d.val; omega

/-- Row `n`'s probabilities. -/
def probs (n : Fin 512) : Fin 8 → EReal := softmax (score (tokens m c) (router m c) (bias m c) n)

/-- Expert `e`'s output at row `n`, column `d`. -/
def output (n : Fin 512) (d : Fin 768) (e : Fin 8) : EReal :=
  Cert.Gelu.expert (fun h => tokens m c (ix2 n h)) (fun h f => first m c (ix3 e h f)) (fun f => second m c (ix3 e f d))

/-- What a grid point computes for its expert. -/
theorem pay11_block (t : Fin cfg0.N) (e : Fin 8) (he : t.val = e.val) (n : Fin 512) (d : Fin 768) :
    k0_pay11 (F := Ideal) (iblk m c 0 t) (iblk m c 3 t) (iblk m c 4 t) (ix2 n d) = output m c n d e := by
  rw [pay11_at, iblk0]
  unfold output
  congr 1
  · funext h f; exact iblk3 m c t e he h f
  · funext f; exact iblk4 m c t e he f d

/-- The routing weights the first grid point stores. -/
def weights : Vec Ideal S512x8 .f32 := k0_pay9 (k0_pay7 (tokens m c) (router m c) (bias m c)) (k0_pay8 (tokens m c) (router m c) (bias m c))

/-- Entry `e` of row `n` of the scratch array is the weight of expert `e` for token `n`. -/
theorem weights_at (n : Fin 512) (e : Fin 8) : weights m c (ix2 n e) = weight (probs m c n) e := pay9_at _ _ _ n e

/-- Expert `e`'s share of the result. -/
def term (n : Fin 512) (d : Fin 768) (e : ℕ) : EReal :=
  if h : e < 8 then weight (probs m c n) ⟨e, h⟩ * output m c n d ⟨e, h⟩ else 0

/-- One accumulation: the point's own weight times its own expert, added. -/
theorem step (t : Fin cfg0.N) (acc : Vec Ideal S512x768 .f32) (n : Fin 512) (d : Fin 768) :
    k0_pay1 (F := Ideal) (k0_pay11 (iblk m c 0 t) (iblk m c 3 t) (iblk m c 4 t)) (k0_pay12 (grid0.coords t) (weights m c)) acc (ix2 n d)
      = acc (ix2 n d) + term m c n d t.val := by
  have ht : t.val < 8 := lt_of_lt_of_eq t.isLt (show cfg0.N = 8 from N_0)
  rw [pay1_at, pay11_block m c t ⟨t.val, ht⟩ rfl, pay12_at _ _ n ⟨t.val, ht⟩ (coord t), weights_at]
  unfold term
  rw [dif_pos ht]

/-- After grid point `k`: the output holds the first `k + 1` experts' shares summed, the scratch the weights. -/
theorem after (k : ℕ) (hk : k < cfg0.N) :
    (∀ n d, (outsAt0 m c k hk).1 (ix2 n d) = ∑ e ∈ Finset.range (k + 1), term m c n d e) ∧ (outsAt0 m c k hk).2 = weights m c := by
  have hN : cfg0.N = 8 := N_0
  induction k with
  | zero =>
    rw [outsAt0_A m c ⟨0, hk⟩ rfl rfl, Cases.out_first, Cases.scratch_first, iblk0, iblk1, iblk2]
    refine ⟨fun n d => ?_, rfl⟩
    have := step m c ⟨0, hk⟩ (k0_pay10 (F := Ideal)) n d
    rw [iblk0, pay10_at, zero_add] at this
    rw [Finset.sum_range_one]
    exact this
  | succ k ih =>
    obtain ⟨ho, hs⟩ := ih (Nat.lt_of_succ_lt hk)
    have hB : ¬(⟨k + 1, hk⟩ : Fin cfg0.N).val % 8 = 0 := by dsimp only; omega
    rw [outsAt0_B m c ⟨k + 1, hk⟩ hB hB, Cases.out_later]
    show (∀ n d, k0_pay1 (F := Ideal) _ (k0_pay12 _ (outsAt0 m c k _).2) (outsAt0 m c k _).1 (ix2 n d) = _) ∧ (outsAt0 m c k _).2 = _
    refine ⟨fun n d => ?_, hs⟩
    rw [hs, step m c ⟨k + 1, hk⟩, ho, Finset.sum_range_succ _ (k + 1)]

/-- THE RESULT ARRAY at row `n`, column `d`: the experts' outputs summed by the row's weights. -/
theorem result_at (n : Fin 512) (d : Fin 768) :
    Cert.KernelIdeal.Value.G5 m c (ix2 n d) = ∑ e, weight (probs m c n) e * output m c n d e := by
  rw [Cert.KernelIdeal.Value.G5_last, ← Cert.KernelIdeal.Value.outsAt0_sweep m c 7 (lt_of_lt_of_eq (by decide) N_0.symm)]
  refine ((after m c 7 _).1 n d).trans ?_
  rw [← Fin.sum_univ_eq_sum_range (term m c n d) 8]
  refine Finset.sum_congr rfl fun e _ => ?_
  unfold term
  rw [dif_pos e.isLt]

end Cert.Array

end
-- ==== Proof.Sorted.lean ====
/-
  The reference's choice of two experts: the first two columns of each row's stable descending sort, values and positions.
-/
module

public import proofs.«01_k».proof.Proof.Routing
public import proofs.«01_k».proof.Proof.Gen.ReferenceIdeal.Run
public import Idealize.ShloMosaic.Lib.Pointwise

@[expose] public section

set_option maxRecDepth 16384

noncomputable section

namespace Cert.Sorted

open Idealize.ShloMosaic Cert.ReferenceIdeal Cert.Top2 Cert.Routing

/-- Replacing a row's second coordinate. -/
theorem along_ix2 (n : Fin 512) (e e' : Fin 8) : (ix2 n e : S512x8.Idx).along (1 : Fin 2) e' = ix2 n e' := by
  funext a
  match a with
  | ⟨0, _⟩ => rfl
  | ⟨1, _⟩ => rfl

/-- The sort of a row, stated at the row: position `k` holds the row's entry at position `k` of its sort. -/
theorem sort2_at (x : FVec Ideal S512x8 .f32) (y : IVec S512x8 32) (n : Fin 512) (k : Fin 8) :
    (Host.sort2 S512x8 1 (fun l r : Ideal .f32 × BitVec 32 => FloatOps.cmpfTotal .gt l.1 r.1) x y).1 (ix2 n k)
        = x (ix2 n (choice (fun e => x (ix2 n e)) k))
      ∧ (Host.sort2 S512x8 1 (fun l r : Ideal .f32 × BitVec 32 => FloatOps.cmpfTotal .gt l.1 r.1) x y).2 (ix2 n k)
        = y (ix2 n (choice (fun e => x (ix2 n e)) k)) := by
  have key : sortedFrom (fun e e' : Fin 8 => FloatOps.cmpfTotal (F := Ideal) (φ := .f32) .gt
      (x ((ix2 n k : S512x8.Idx).along (1 : Fin 2) e)) (x ((ix2 n k : S512x8.Idx).along (1 : Fin 2) e')) == 1#1) k
      = choice (fun e => x (ix2 n e)) k := by
    simp only [along_ix2]
    rfl
  constructor
  · exact congrArg x ((along_ix2 n k _).trans (congrArg (ix2 n) key))
  · exact congrArg y ((along_ix2 n k _).trans (congrArg (ix2 n) key))

/-- The chosen values, row by row. -/
theorem topK_values (x : FVec Ideal S512x8 .f32) (h : S512x8.Slices (fun _ => 0) S512x2) (n : Fin 512) (k : Fin 2) :
    (Host.topK S512x2 1 (FloatOps.cmpfTotal (F := Ideal) (φ := .f32) .gt) x h).1 (ix2 n k)
      = x (ix2 n (choice (fun e => x (ix2 n e)) (k.castLE (by decide)))) := by
  rw [← (sort2_at x (fun i => iotaInDim S512x8 32 1 i) n (k.castLE (by decide))).1]
  unfold Host.topK extractStridedSlice
  dsimp only
  refine congrArg _ ?_
  funext a
  apply Fin.ext
  match a with
  | ⟨0, _⟩ => show 0 + n.val = n.val; omega
  | ⟨1, _⟩ => show 0 + k.val = k.val; omega

/-- The chosen positions, row by row, as words. -/
theorem topK_indices (x : FVec Ideal S512x8 .f32) (h : S512x8.Slices (fun _ => 0) S512x2) (n : Fin 512) (k : Fin 2) :
    (Host.topK S512x2 1 (FloatOps.cmpfTotal (F := Ideal) (φ := .f32) .gt) x h).2 (ix2 n k)
      = BitVec.ofNat 32 (choice (fun e => x (ix2 n e)) (k.castLE (by decide))).val := by
  show _ = iotaInDim S512x8 32 1 (ix2 n (choice (fun e => x (ix2 n e)) (k.castLE (by decide))))
  rw [← (sort2_at x (fun i => iotaInDim S512x8 32 1 i) n (k.castLE (by decide))).2]
  unfold Host.topK extractStridedSlice
  dsimp only
  refine congrArg _ ?_
  funext a
  apply Fin.ext
  match a with
  | ⟨0, _⟩ => show 0 + n.val = n.val; omega
  | ⟨1, _⟩ => show 0 + k.val = k.val; omega

end Cert.Sorted

end
-- ==== Proof.Reference.lean ====
/-
  What the reference computes, stage by stage and at one index, as extended reals: its softmax, its two choices and their
  shares, its indicator columns, and its hidden layers.
-/
module

public import proofs.«01_k».proof.Proof.Sorted
public import proofs.«01_k».proof.Proof.Gelu

@[expose] public section

set_option maxRecDepth 16384

noncomputable section

namespace Cert.Reference

open Idealize.ShloMosaic Idealize.ShloMosaic.TcCoe Cert.ReferenceIdeal Cert.ReferenceIdeal.Value Cert.Top2 Cert.Routing

variable (V : Valuation τ sig (Elt Ideal))

/-- The tokens, 512 rows of 768. -/
abbrev tokens : Vec Ideal S512x768 .f32 := res_main_v0 V
/-- The router's weights. -/
abbrev router : Vec Ideal S8x768 .f32 := V (Proc.devRef .tc main_arg1)
/-- The router's bias. -/
abbrev bias : Vec Ideal S8 .f32 := V (Proc.devRef .tc main_arg2)
/-- The experts' first weights. -/
abbrev first : Vec Ideal S8x768x3072 .f32 := V (Proc.devRef .tc main_arg3)
/-- The experts' second weights. -/
abbrev second : Vec Ideal S8x3072x768 .f32 := V (Proc.devRef .tc main_arg4)

/-- The router's score of expert `e` for row `n`. -/
def score (n : Fin 512) (e : Fin 8) : EReal := (∑ h, tokens V (ix2 n h) * router V (ix2 e h)) + bias V (ix1 e)

/-- Row `n`'s probabilities. -/
def probs (n : Fin 512) : Fin 8 → EReal := softmax (score V n)

/-- The router's scores. -/
theorem v5_at (n : Fin 512) (e : Fin 8) : res_main_v5 V (ix2 n e) = score V n e := by
  unfold res_main_v5
  pointwise
  rfl

/-- The maximum over a row, from −∞. -/
theorem rowMax (v : FVec Ideal S512x8 .f32) (n : Fin 512) :
    Finset.fold (max : EReal → EReal → EReal) ⊥ v (Finset.univ.filter fun i => Gen.reducesTo_S512x8_S512_d1.drop i = ix1 n)
      = greatest fun e => v (ix2 n e) := by
  rw [Gen.reducesTo_S512x8_S512_d1.fold_fiber_r2_a1]
  rfl

/-- The exponentials of the scores less their greatest. -/
theorem v12_at (n : Fin 512) (e : Fin 8) : res_main_v12 V (ix2 n e) = Ideal.exp (score V n e - greatest (score V n)) := by
  unfold res_main_v12
  pointwise
  simp only [v5_at, Cert.Gelu.ofBits_negInf]
  rw [max_eq_right bot_le]
  exact congrArg (fun M => Ideal.exp (score V n e - M)) ((rowMax (res_main_v5 V) n).trans (congrArg greatest (funext (v5_at V n))))

/-- The routing probabilities. -/
theorem v16_at (n : Fin 512) (e : Fin 8) : res_main_v16 V (ix2 n e) = probs V n e := by
  unfold res_main_v16
  pointwise
  simp only [v12_at]
  rfl

/-- The values of `top_k` are the probabilities of the two choices. -/
theorem values_at (n : Fin 512) (k : Fin 2) : res_main_values V (ix2 n k) = probs V n (choice (probs V n) (k.castLE (by decide))) := by
  unfold res_main_values
  rw [Cert.Sorted.topK_values]
  simp only [v16_at]

/-- Its indices are the two choices. -/
theorem indices_at (n : Fin 512) (k : Fin 2) :
    res_main_indices V (ix2 n k) = BitVec.ofNat 32 (choice (probs V n) (k.castLE (by decide))).val := by
  unfold res_main_indices
  rw [Cert.Sorted.topK_indices]
  simp only [v16_at]

/-- The share of choice `k`. -/
theorem v20_at (n : Fin 512) (k : Fin 2) : res_main_v20 V (ix2 n k) = share (probs V n) (k.castLE (by decide)) := by
  unfold res_main_v20
  pointwise
  simp only [values_at, Fin.sum_univ_two]
  rfl

/-- A one-bit word as a number is one or zero. -/
theorem ofBool_toFloat (c : Prop) [Decidable c] :
    (FloatOps.uitofp .f32 (BitVec.ofBool (decide c)) : Ideal .f32) = if c then (1 : EReal) else 0 := by
  show (((BitVec.ofBool (decide c)).toNat : ℝ) : EReal) = _
  by_cases h : c <;> simp [h]

/-- Whether the first choice is expert `e`. -/
theorem v24_at (n : Fin 512) (e : Fin 8) : res_main_v24 V (ix2 n e) = chosen (probs V n) 0 e := by
  unfold res_main_v24
  pointwise
  rw [indices_at, cmpi_eq_word, ofBool_toFloat]
  rfl

/-- Whether the second choice is expert `e`. -/
theorem v235_at (n : Fin 512) (e : Fin 8) : res_main_v235 V (ix2 n e) = chosen (probs V n) 1 e := by
  unfold res_main_v235
  pointwise
  rw [indices_at, cmpi_eq_word, ofBool_toFloat]
  rfl

/-! ## The indicator columns -/

/-- Whether expert 0 is the token's first choice. -/
theorem v27_at (n : Fin 512) : res_main_v27 V (ix2 n 0) = chosen (probs V n) 0 0 := by
  unfold res_main_v27
  pointwise
  exact v24_at V n 0

/-- Whether expert 1 is the token's first choice. -/
theorem v53_at (n : Fin 512) : res_main_v53 V (ix2 n 0) = chosen (probs V n) 0 1 := by
  unfold res_main_v53
  pointwise
  exact v24_at V n 1

/-- Whether expert 2 is the token's first choice. -/
theorem v79_at (n : Fin 512) : res_main_v79 V (ix2 n 0) = chosen (probs V n) 0 2 := by
  unfold res_main_v79
  pointwise
  exact v24_at V n 2

/-- Whether expert 3 is the token's first choice. -/
theorem v105_at (n : Fin 512) : res_main_v105 V (ix2 n 0) = chosen (probs V n) 0 3 := by
  unfold res_main_v105
  pointwise
  exact v24_at V n 3

/-- Whether expert 4 is the token's first choice. -/
theorem v131_at (n : Fin 512) : res_main_v131 V (ix2 n 0) = chosen (probs V n) 0 4 := by
  unfold res_main_v131
  pointwise
  exact v24_at V n 4

/-- Whether expert 5 is the token's first choice. -/
theorem v157_at (n : Fin 512) : res_main_v157 V (ix2 n 0) = chosen (probs V n) 0 5 := by
  unfold res_main_v157
  pointwise
  exact v24_at V n 5

/-- Whether expert 6 is the token's first choice. -/
theorem v183_at (n : Fin 512) : res_main_v183 V (ix2 n 0) = chosen (probs V n) 0 6 := by
  unfold res_main_v183
  pointwise
  exact v24_at V n 6

/-- Whether expert 7 is the token's first choice. -/
theorem v209_at (n : Fin 512) : res_main_v209 V (ix2 n 0) = chosen (probs V n) 0 7 := by
  unfold res_main_v209
  pointwise
  exact v24_at V n 7

/-- Whether expert 0 is the token's second choice. -/
theorem v238_at (n : Fin 512) : res_main_v238 V (ix2 n 0) = chosen (probs V n) 1 0 := by
  unfold res_main_v238
  pointwise
  exact v235_at V n 0

/-- Whether expert 1 is the token's second choice. -/
theorem v264_at (n : Fin 512) : res_main_v264 V (ix2 n 0) = chosen (probs V n) 1 1 := by
  unfold res_main_v264
  pointwise
  exact v235_at V n 1

/-- Whether expert 2 is the token's second choice. -/
theorem v290_at (n : Fin 512) : res_main_v290 V (ix2 n 0) = chosen (probs V n) 1 2 := by
  unfold res_main_v290
  pointwise
  exact v235_at V n 2

/-- Whether expert 3 is the token's second choice. -/
theorem v316_at (n : Fin 512) : res_main_v316 V (ix2 n 0) = chosen (probs V n) 1 3 := by
  unfold res_main_v316
  pointwise
  exact v235_at V n 3

/-- Whether expert 4 is the token's second choice. -/
theorem v342_at (n : Fin 512) : res_main_v342 V (ix2 n 0) = chosen (probs V n) 1 4 := by
  unfold res_main_v342
  pointwise
  exact v235_at V n 4

/-- Whether expert 5 is the token's second choice. -/
theorem v368_at (n : Fin 512) : res_main_v368 V (ix2 n 0) = chosen (probs V n) 1 5 := by
  unfold res_main_v368
  pointwise
  exact v235_at V n 5

/-- Whether expert 6 is the token's second choice. -/
theorem v394_at (n : Fin 512) : res_main_v394 V (ix2 n 0) = chosen (probs V n) 1 6 := by
  unfold res_main_v394
  pointwise
  exact v235_at V n 6

/-- Whether expert 7 is the token's second choice. -/
theorem v420_at (n : Fin 512) : res_main_v420 V (ix2 n 0) = chosen (probs V n) 1 7 := by
  unfold res_main_v420
  pointwise
  exact v235_at V n 7

/-! ## The hidden layers: each expert's, over the tokens of one choice -/

/-- Entry `f` of expert `e`'s hidden layer at row `n`, the row multiplied by the indicator of choice `k`. -/
def masked (k e : Fin 8) (n : Fin 512) (f : Fin 3072) : EReal :=
  ∑ h, tokens V (ix2 n h) * chosen (probs V n) k e * first V (ix3 e h f)

/-- The first product of expert 0 on the tokens masked by their first choice. -/
theorem v32_at (n : Fin 512) (f : Fin 3072) : res_main_v32 V (ix2 n f) = masked V 0 0 n f := by
  unfold res_main_v32
  pointwise
  simp only [v27_at]
  rfl

/-- The first product of expert 1 on the tokens masked by their first choice. -/
theorem v58_at (n : Fin 512) (f : Fin 3072) : res_main_v58 V (ix2 n f) = masked V 0 1 n f := by
  unfold res_main_v58
  pointwise
  simp only [v53_at]
  rfl

/-- The first product of expert 2 on the tokens masked by their first choice. -/
theorem v84_at (n : Fin 512) (f : Fin 3072) : res_main_v84 V (ix2 n f) = masked V 0 2 n f := by
  unfold res_main_v84
  pointwise
  simp only [v79_at]
  rfl

/-- The first product of expert 3 on the tokens masked by their first choice. -/
theorem v110_at (n : Fin 512) (f : Fin 3072) : res_main_v110 V (ix2 n f) = masked V 0 3 n f := by
  unfold res_main_v110
  pointwise
  simp only [v105_at]
  rfl

/-- The first product of expert 4 on the tokens masked by their first choice. -/
theorem v136_at (n : Fin 512) (f : Fin 3072) : res_main_v136 V (ix2 n f) = masked V 0 4 n f := by
  unfold res_main_v136
  pointwise
  simp only [v131_at]
  rfl

/-- The first product of expert 5 on the tokens masked by their first choice. -/
theorem v162_at (n : Fin 512) (f : Fin 3072) : res_main_v162 V (ix2 n f) = masked V 0 5 n f := by
  unfold res_main_v162
  pointwise
  simp only [v157_at]
  rfl

/-- The first product of expert 6 on the tokens masked by their first choice. -/
theorem v188_at (n : Fin 512) (f : Fin 3072) : res_main_v188 V (ix2 n f) = masked V 0 6 n f := by
  unfold res_main_v188
  pointwise
  simp only [v183_at]
  rfl

/-- The first product of expert 7 on the tokens masked by their first choice. -/
theorem v214_at (n : Fin 512) (f : Fin 3072) : res_main_v214 V (ix2 n f) = masked V 0 7 n f := by
  unfold res_main_v214
  pointwise
  simp only [v209_at]
  rfl

/-- The first product of expert 0 on the tokens masked by their second choice. -/
theorem v243_at (n : Fin 512) (f : Fin 3072) : res_main_v243 V (ix2 n f) = masked V 1 0 n f := by
  unfold res_main_v243
  pointwise
  simp only [v238_at]
  rfl

/-- The first product of expert 1 on the tokens masked by their second choice. -/
theorem v269_at (n : Fin 512) (f : Fin 3072) : res_main_v269 V (ix2 n f) = masked V 1 1 n f := by
  unfold res_main_v269
  pointwise
  simp only [v264_at]
  rfl

/-- The first product of expert 2 on the tokens masked by their second choice. -/
theorem v295_at (n : Fin 512) (f : Fin 3072) : res_main_v295 V (ix2 n f) = masked V 1 2 n f := by
  unfold res_main_v295
  pointwise
  simp only [v290_at]
  rfl

/-- The first product of expert 3 on the tokens masked by their second choice. -/
theorem v321_at (n : Fin 512) (f : Fin 3072) : res_main_v321 V (ix2 n f) = masked V 1 3 n f := by
  unfold res_main_v321
  pointwise
  simp only [v316_at]
  rfl

/-- The first product of expert 4 on the tokens masked by their second choice. -/
theorem v347_at (n : Fin 512) (f : Fin 3072) : res_main_v347 V (ix2 n f) = masked V 1 4 n f := by
  unfold res_main_v347
  pointwise
  simp only [v342_at]
  rfl

/-- The first product of expert 5 on the tokens masked by their second choice. -/
theorem v373_at (n : Fin 512) (f : Fin 3072) : res_main_v373 V (ix2 n f) = masked V 1 5 n f := by
  unfold res_main_v373
  pointwise
  simp only [v368_at]
  rfl

/-- The first product of expert 6 on the tokens masked by their second choice. -/
theorem v399_at (n : Fin 512) (f : Fin 3072) : res_main_v399 V (ix2 n f) = masked V 1 6 n f := by
  unfold res_main_v399
  pointwise
  simp only [v394_at]
  rfl

/-- The first product of expert 7 on the tokens masked by their second choice. -/
theorem v425_at (n : Fin 512) (f : Fin 3072) : res_main_v425 V (ix2 n f) = masked V 1 7 n f := by
  unfold res_main_v425
  pointwise
  simp only [v420_at]
  rfl

/-! ## The passes -/

/-- Expert `e`'s output at row `n`, column `d`. -/
def output (n : Fin 512) (d : Fin 768) (e : Fin 8) : EReal :=
  Cert.Gelu.expert (fun h => tokens V (ix2 n h)) (fun h f => first V (ix3 e h f)) (fun f => second V (ix3 e f d))

/-- What the pass over choice `k` and expert `e` adds: the expert's output times the choice's share, where the choice is
    the expert. -/
def passed (n : Fin 512) (d : Fin 768) (k e : Fin 8) : EReal :=
  output V n d e * (share (probs V n) k * chosen (probs V n) k e)

/-- One pass as the reference writes it, read through its masked first product. -/
theorem passed_eq (n : Fin 512) (d : Fin 768) (k e : Fin 8) :
    (∑ f, Ideal.ofBits .f32 0x3F000000#32 * masked V k e n f
        * Ideal.erfc (Ideal.div (-masked V k e n f) (Ideal.sqrt (Ideal.ofBits .f32 0x40000000#32)))
        * second V (ix3 e f d)) * (share (probs V n) k * chosen (probs V n) k e) = passed V n d k e :=
  Cert.Gelu.pass _ _ _ _ _ (by unfold chosen; split <;> simp)

/-- The renormalised weight of the first choice. -/
theorem v20_first (n : Fin 512) : res_main_v20 V (ix2 n 0) = share (probs V n) 0 := v20_at V n 0
/-- And of the second. -/
theorem v20_second (n : Fin 512) : res_main_v20 V (ix2 n 1) = share (probs V n) 1 := v20_at V n 1

/-- The first six passes. -/
theorem v180_at (n : Fin 512) (d : Fin 768) : (res_main_v180 V (ix2 n d) : EReal)
    = passed V n d 0 0 + passed V n d 0 1 + passed V n d 0 2 + passed V n d 0 3 + passed V n d 0 4 + passed V n d 0 5 := by
  unfold res_main_v180
  pointwise
  simp only [v20_first, v27_at, v53_at, v79_at, v105_at, v131_at, v157_at, v32_at, v58_at, v84_at, v110_at, v136_at, v162_at,
    passed_eq]

/-- The first twelve. -/
theorem v339_at (n : Fin 512) (d : Fin 768) : (res_main_v339 V (ix2 n d) : EReal)
    = passed V n d 0 0 + passed V n d 0 1 + passed V n d 0 2 + passed V n d 0 3 + passed V n d 0 4 + passed V n d 0 5
      + passed V n d 0 6 + passed V n d 0 7 + passed V n d 1 0 + passed V n d 1 1 + passed V n d 1 2 + passed V n d 1 3 := by
  unfold res_main_v339
  pointwise
  simp only [v180_at, v20_first, v20_second, v183_at, v209_at, v238_at, v264_at, v290_at, v316_at, v188_at, v214_at, v243_at,
    v269_at, v295_at, v321_at, passed_eq]

/-- All sixteen, choice by choice. -/
theorem sum_at (n : Fin 512) (d : Fin 768) : passed V n d 0 0 + passed V n d 0 1 + passed V n d 0 2 + passed V n d 0 3
      + passed V n d 0 4 + passed V n d 0 5 + passed V n d 0 6 + passed V n d 0 7 + passed V n d 1 0 + passed V n d 1 1
      + passed V n d 1 2 + passed V n d 1 3 + passed V n d 1 4 + passed V n d 1 5 + passed V n d 1 6 + passed V n d 1 7
    = ∑ e, weight (probs V n) e * output V n d e := by
  rw [routed (probs V n) (softmax_bot (score V n)) (output V n d), Fin.sum_univ_eight, Fin.sum_univ_eight]
  simp only [← add_assoc]
  rfl

end Cert.Reference

end
-- ==== Proof.Equation.lean ====
/-
  The equation: on equal arguments the kernel's result array and the reference's hold the same extended reals.
-/
module

public import proofs.«01_k».proof.Proof.Array
public import proofs.«01_k».proof.Proof.Reference

@[expose] public section

set_option maxRecDepth 16384

noncomputable section

namespace Cert.Equation

open Idealize.ShloMosaic Idealize.ShloMosaic.TcCoe Cert.Routing

variable (m : (ℓ : Loc Cert.KernelIdeal.nD Cert.KernelIdeal.τ Cert.KernelIdeal.sig) → Buf (Elt Ideal) ℓ)
variable (c : Dev Cert.KernelIdeal.nD)
variable (V : Valuation Cert.ReferenceIdeal.τ Cert.ReferenceIdeal.sig (Elt Ideal))

/-- The reference's five arguments are the kernel's. -/
structure Agree : Prop where
  arg0 : V (Proc.devRef .tc Cert.ReferenceIdeal.main_arg0) = m (c.tc.loc Cert.KernelIdeal.main_arg0)
  arg1 : V (Proc.devRef .tc Cert.ReferenceIdeal.main_arg1) = m (c.tc.loc Cert.KernelIdeal.main_arg1)
  arg2 : V (Proc.devRef .tc Cert.ReferenceIdeal.main_arg2) = m (c.tc.loc Cert.KernelIdeal.main_arg2)
  arg3 : V (Proc.devRef .tc Cert.ReferenceIdeal.main_arg3) = m (c.tc.loc Cert.KernelIdeal.main_arg3)
  arg4 : V (Proc.devRef .tc Cert.ReferenceIdeal.main_arg4) = m (c.tc.loc Cert.KernelIdeal.main_arg4)

variable {m c V}

/-- The same rows of tokens. -/
theorem tokens_eq (h : Agree m c V) : Cert.Reference.tokens V = Cert.Array.tokens m c := by
  unfold Cert.Reference.tokens Cert.Array.tokens Cert.ReferenceIdeal.Value.res_main_v0
  rw [h.arg0]
  rfl

/-- The same scores, so the same probabilities. -/
theorem probs_eq (h : Agree m c V) (n : Fin 512) : Cert.Reference.probs V n = Cert.Array.probs m c n := by
  unfold Cert.Reference.probs Cert.Array.probs
  congr 1
  funext e
  unfold Cert.Reference.score Cert.Block.score
  rw [tokens_eq h]
  have hr : Cert.Reference.router V = Cert.Array.router m c := h.arg1
  have hb : Cert.Reference.bias V (ix1 e) = Cert.Array.bias m c (ix2 0 e) := by
    unfold Cert.Reference.bias Cert.Array.bias
    rw [h.arg2]
    pointwise
  rw [hr, hb]

/-- The same experts. -/
theorem output_eq (h : Agree m c V) (n : Fin 512) (d : Fin 768) (e : Fin 8) :
    Cert.Reference.output V n d e = Cert.Array.output m c n d e := by
  unfold Cert.Reference.output Cert.Array.output
  rw [tokens_eq h]
  have h3 : Cert.Reference.first V = Cert.Array.first m c := h.arg3
  have h4 : Cert.Reference.second V = Cert.Array.second m c := h.arg4
  rw [h3, h4]

/-- The sixteen passes of the reference sum to what the kernel's array holds. -/
theorem sum_eq (h : Agree m c V) (n : Fin 512) (d : Fin 768) :
    ∑ e, weight (Cert.Reference.probs V n) e * Cert.Reference.output V n d e = Cert.KernelIdeal.Value.G5 m c (ix2 n d) := by
  rw [Cert.Array.result_at, probs_eq h]
  simp only [output_eq h]

end Cert.Equation

end
-- ==== Proof.lean ====
/-
  The assembly of `Cert.Claim`. The three programs run, leaving their arguments as they were (`frame`); the kernel's one
  replaced constant is the root of one half it stands for (`preserves`); and the kernel's result array is the reference's
  (`algebraic`): each side is read at row `n` and column `d`, and the two readings are one sum over the experts.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Equation
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem Cert.Reference

/-- The reference runs to its end, its arguments unchanged and no counter left raised. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The constant 0.70710677 of the kernel is the nearest float to the inverse of the root of two. -/
theorem preserves_Kernel_KernelIdeal : preserves_Kernel_KernelIdeal :=
  IdealRules.named_const.statement Cert.KernelIdeal.κ "sqrt_half" .f32 0x3F3504F3#32 (((Real.sqrt 2)⁻¹ : ℝ) : EReal) rfl

/-- On equal arguments the reference's result is the kernel's. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  have agree : Cert.Equation.Agree m c (StableHlo.launchContents m' c) :=
    ⟨(hagree c).1, (hagree c).2.1, (hagree c).2.2.1, (hagree c).2.2.2.1, (hagree c).2.2.2.2⟩
  refine funext fun j => ?_
  obtain ⟨n, d, rfl⟩ : ∃ (n : Fin 512) (d : Fin 768), j = ix2 n d := ⟨j 0, j 1, ValueIdx.eq_ix2 j⟩
  refine Eq.trans ?_ (Cert.Equation.sum_eq agree n d)
  refine Eq.trans ?_ (sum_at _ n d)
  generalize StableHlo.launchContents m' c = V
  pointwise
  simp only [v339_at, v20_second, v342_at, v368_at, v394_at, v420_at, v347_at, v373_at, v399_at, v425_at, passed_eq]

/-- Every claim. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal,
  preserves_Kernel_KernelIdeal, algebraic_KernelIdeal_ReferenceIdeal⟩

end Cert.Proof

end
